-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_in_range : Cert.Pre_in_range.Facts] (m : (ℓ : Loc Cert.Kernel3.nD Cert.Kernel3.τ Cert.Kernel3.sig) → Buf (Elt Bits) ℓ) : Prop :=
  ∀ c : Dev Cert.Kernel3.nD,
    (Cert.Pre_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_in_range : Cert.Pre_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal [hPre_in_range : Cert.Pre_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_in_range : Cert.Pre_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_in_range : Cert.Pre_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] [hPre_in_range : Cert.Pre_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] [hPre_in_range : Cert.Pre_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_in_range := hPre_in_range)
    ∧ quiescent_Kernel3Ideal (hKernel3Ideal := hKernel3Ideal) (hPre_in_range := hPre_in_range)
    ∧ quiescent_Reference3Ideal (hReference3Ideal := hReference3Ideal) (hPre_in_range := hPre_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_in_range := hPre_in_range)
-- ==== Pre_finite.lean ====
abbrev S36864x512 : Shape := ⟨2, ![36864, 512]⟩
abbrev S4x64 : Shape := ⟨2, ![4, 64]⟩
abbrev S128 : Shape := ⟨1, ![128]⟩
abbrev S_ : Shape := ⟨0, ![]⟩

class Facts : Prop where
  bcast_S_S36864x512 : S_.BroadcastsInDim S36864x512 (![] : Fin 0 → Fin S36864x512.rank)
  reducesTo_S36864x512_S_d0_1 : S36864x512.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S36864x512 .f32) (main_arg1 : FVec F S36864x512 .f32) (main_arg2 : FVec F S36864x512 .f32) (main_arg3 : FVec F S4x64 .f32) (main_arg4 : FVec F S128 .f32) : IVec S_ 1 :=
  let main_v0 : FVec F S36864x512 .f32 := Host.absf main_arg2
  let main_cst : FVec F S_ .f32 := constant S_ .f32 0x7F800000#32
  let main_v1 : FVec F S36864x512 .f32 := broadcastInDim S36864x512 ![] bcast_S_S36864x512 main_cst
  let main_v2 : IVec S36864x512 1 := cmpf .olt main_v0 main_v1
  let main_c : IVec S_ 1 := constantI S_ 1 1#1
  let main_v3 : IVec S_ 1 := (fun x v => Host.reduce IntOp.andi x v reducesTo_S36864x512_S_d0_1 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Pre_in_range.lean ====
abbrev S36864x1024 : Shape := ⟨2, ![36864, 1024]⟩
abbrev S296 : Shape := ⟨1, ![296]⟩
abbrev S75776 : Shape := ⟨1, ![75776]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S296 : S_.BroadcastsInDim S296 (![] : Fin 0 → Fin S296.rank)
  reducesTo_S296_S_d0 : S296.ReducesTo [0] S_
  h_S_ : 0 < S_.numel
  bcast_S_S75776 : S_.BroadcastsInDim S75776 (![] : Fin 0 → Fin S75776.rank)
  reducesTo_S75776_S_d0 : S75776.ReducesTo [0] S_

variable [Facts]

def fn {F : FTy → Type} [FloatOps F] (main_arg0 : FVec F S36864x1024 .f32) (main_arg1 : IVec S296 32) (main_arg2 : IVec S296 32) (main_arg3 : IVec S75776 32) (main_arg4 : FVec F S8x1024x2816 .f32) (main_arg5 : FVec F S8x1024x2816 .f32) (main_arg6 : FVec F S8x2816x1024 .f32) : IVec S_ 1 :=
  let main_c : IVec S_ 32 := constantI S_ 32 0#32
  let main_v0 : IVec S296 32 := broadcastInDim S296 ![] bcast_S_S296 main_c
  let main_v1 : IVec S296 1 := cmpi .sge main_arg1 main_v0
  let main_c_0 : IVec S_ 1 := constantI S_ 1 1#1
  let main_v2 : IVec S_ 1 := (fun x v => Host.reduce IntOp.andi x v reducesTo_S296_S_d0 h_S_) main_v1 main_c_0
  let main_c_1 : IVec S_ 32 := constantI S_ 32 8#32
  let main_v3 : IVec S296 32 := broadcastInDim S296 ![] bcast_S_S296 main_c_1
  let main_v4 : IVec S296 1 := cmpi .slt main_arg1 main_v3
  let main_c_2 : IVec S_ 1 := constantI S_ 1 1#1
  let main_v5 : IVec S_ 1 := (fun x v => Host.reduce IntOp.andi x v reducesTo_S296_S_d0 h_S_) main_v4 main_c_2
  let main_v6 : IVec S_ 1 := andi main_v2 main_v5
  let main_c_3 : IVec S_ 32 := constantI S_ 32 0#32
  let main_v7 : IVec S75776 32 := broadcastInDim S75776 ![] bcast_S_S75776 main_c_3
  let main_v8 : IVec S75776 1 := cmpi .sge main_arg3 main_v7
  let main_c_4 : IVec S_ 1 := constantI S_ 1 1#1
  let main_v9 : IVec S_ 1 := (fun x v => Host.reduce IntOp.andi x v reducesTo_S75776_S_d0 h_S_) main_v8 main_c_4
  let main_v10 : IVec S_ 1 := andi main_v6 main_v9
  let main_c_5 : IVec S_ 32 := constantI S_ 32 36864#32
  let main_v11 : IVec S75776 32 := broadcastInDim S75776 ![] bcast_S_S75776 main_c_5
  let main_v12 : IVec S75776 1 := cmpi .slt main_arg3 main_v11
  let main_c_6 : IVec S_ 1 := constantI S_ 1 1#1
  let main_v13 : IVec S_ 1 := (fun x v => Host.reduce IntOp.andi x v reducesTo_S75776_S_d0 h_S_) main_v12 main_c_6
  let main_v14 : IVec S_ 1 := andi main_v10 main_v13
  main_v14
-- ==== Kernel.lean ====
abbrev S36864x512 : Shape := ⟨2, ![36864, 512]⟩
abbrev S4x64 : Shape := ⟨2, ![4, 64]⟩
abbrev S128 : Shape := ⟨1, ![128]⟩
abbrev S_ : Shape := ⟨0, ![]⟩
abbrev S1x128 : Shape := ⟨2, ![1, 128]⟩
abbrev S16x2304x512 : Shape := ⟨3, ![16, 2304, 512]⟩
abbrev S32768x512 : Shape := ⟨2, ![32768, 512]⟩
abbrev S1024x512 : Shape := ⟨2, ![1024, 512]⟩
abbrev S1x2304x512 : Shape := ⟨3, ![1, 2304, 512]⟩
abbrev S1x64 : Shape := ⟨2, ![1, 64]⟩
abbrev S1 : Shape := ⟨1, ![1]⟩
abbrev S1x1 : Shape := ⟨2, ![1, 1]⟩
abbrev S2304x128 : Shape := ⟨2, ![2304, 128]⟩
abbrev S256x128 : Shape := ⟨2, ![256, 128]⟩
abbrev S1x2304x128 : Shape := ⟨3, ![1, 2304, 128]⟩
abbrev S2304x256 : Shape := ⟨2, ![2304, 256]⟩
abbrev S256x2304 : Shape := ⟨2, ![256, 2304]⟩
abbrev S256 : Shape := ⟨1, ![256]⟩
abbrev S256x1 : Shape := ⟨2, ![256, 1]⟩
abbrev S256x256 : Shape := ⟨2, ![256, 256]⟩

abbrev nBuf : Space → Nat
  | .hbm => 19
  | .vmem => 10
  | .smem => 0
  | _ => 0

abbrev bufTy : (tb : Table) → Fin (tcTables nBuf tb) → BufTy
  | .hbm, ⟨0, _⟩ => ⟨S36864x512, .f32⟩
  | .hbm, ⟨1, _⟩ => ⟨S36864x512, .f32⟩
  | .hbm, ⟨2, _⟩ => ⟨S36864x512, .f32⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S36864x512, .f32⟩
  | .hbm, ⟨10, _⟩ => ⟨S36864x512, .f32⟩
  | .hbm, ⟨11, _⟩ => ⟨S36864x512, .bf16⟩
  | .hbm, ⟨12, _⟩ => ⟨S36864x512, .bf16⟩
  | .hbm, ⟨13, _⟩ => ⟨S36864x512, .bf16⟩
  | .hbm, ⟨14, _⟩ => ⟨S1x128, .f32⟩
  | .hbm, ⟨15, _⟩ => ⟨S16x2304x512, .bf16⟩
  | .hbm, ⟨16, _⟩ => ⟨S16x2304x512, .bf16⟩
  | .hbm, ⟨17, _⟩ => ⟨S16x2304x512, .bf16⟩
  | .hbm, ⟨18, _⟩ => ⟨S32768x512, .bf16⟩
  | .local _ .vmem, ⟨0, _⟩ => ⟨S1024x512, .bf16⟩
  | .local _ .vmem, ⟨1, _⟩ => ⟨S1024x512, .bf16⟩
  | .local _ .vmem, ⟨2, _⟩ => ⟨S1x2304x512, .bf16⟩
  | .local _ .vmem, ⟨3, _⟩ => ⟨S1x2304x512, .bf16⟩
  | .local _ .vmem, ⟨4, _⟩ => ⟨S1x2304x512, .bf16⟩
  | .local _ .vmem, ⟨5, _⟩ => ⟨S1x2304x512, .bf16⟩
  | .local _ .vmem, ⟨6, _⟩ => ⟨S4x64, .f32⟩
  | .local _ .vmem, ⟨7, _⟩ => ⟨S1x128, .f32⟩
  | .local _ .vmem, ⟨8, _⟩ => ⟨S1024x512, .bf16⟩
  | .local _ .vmem, ⟨9, _⟩ => ⟨S1024x512, .bf16⟩
  | _, _ => ⟨S36864x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg0 : BitVec 32 := BitVec.ofNat 32 (i 0).val
  let c9_i32 : BitVec 32 := 9#32
  let v0 : BitVec 32 := Scalar.muli arg0 c9_i32
  let c1_i32 : BitVec 32 := 1#32
  let v1 : BitVec 32 := Scalar.addi v0 c1_i32
  let c4_i32 : BitVec 32 := 4#32
  let arg1 : BitVec 32 := BitVec.ofNat 32 (i 1).val
  let v2 : BitVec 32 := Scalar.muli c4_i32 arg1
  let v3 : BitVec 32 := Scalar.addi v1 v2
  let c256_i32 : BitVec 32 := 256#32
  let v4 : BitVec 32 := Scalar.muli v3 c256_i32
  v4
def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c1_i32 : BitVec 32 := 1#32
  let v1 : BitVec 32 := Scalar.addi v0 c1_i32
  let c4_i32 : BitVec 32 := 4#32
  let v2 : BitVec 32 := Scalar.muli c4_i32 arg1
  let v3 : BitVec 32 := Scalar.addi v1 v2
  let c256_i32 : BitVec 32 := 256#32
  let v4 : BitVec 32 := Scalar.muli v3 c256_i32
  let v5 : BitVec 32 := v4
  let c0_i32 : BitVec 32 := 0#32
  let c0_i32_0 : BitVec 32 := 0#32
  ![v5.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S36864x512 : Shape := ⟨2, ![36864, 512]⟩
abbrev S4x64 : Shape := ⟨2, ![4, 64]⟩
abbrev S128 : Shape := ⟨1, ![128]⟩
abbrev S16x2304x4x2x64 : Shape := ⟨5, ![16, 2304, 4, 2, 64]⟩
abbrev S16x2048x4x2x64 : Shape := ⟨5, ![16, 2048, 4, 2, 64]⟩
abbrev S16x2304x4x128 : Shape := ⟨4, ![16, 2304, 4, 128]⟩
abbrev S1x64 : Shape := ⟨2, ![1, 64]⟩
abbrev S64 : Shape := ⟨1, ![64]⟩
abbrev S_ : Shape := ⟨0, ![]⟩
abbrev S16x2048x4x1x64 : Shape := ⟨5, ![16, 2048, 4, 1, 64]⟩
abbrev S16x2048x4x64 : Shape := ⟨4, ![16, 2048, 4, 64]⟩
abbrev S16x2304x4x1x64 : Shape := ⟨5, ![16, 2304, 4, 1, 64]⟩
abbrev S16x2304x4x64 : Shape := ⟨4, ![16, 2304, 4, 64]⟩
abbrev S16x4x2048x2304 : Shape := ⟨4, ![16, 4, 2048, 2304]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S32768x512 : Shape := ⟨2, ![32768, 512]⟩

abbrev nBuf : Space → Nat
  | .hbm => 98
  | .vmem => 0
  | .smem => 0
  | _ => 0

abbrev bufTy : (tb : Table) → Fin (tcTables nBuf tb) → BufTy
  | .hbm, ⟨0, _⟩ => ⟨S36864x512, .f32⟩
  | .hbm, ⟨1, _⟩ => ⟨S36864x512, .f32⟩
  | .hbm, ⟨2, _⟩ => ⟨S36864x512, .f32⟩
  | .hbm, ⟨3, _⟩ => ⟨S4x64, .f32⟩
  | .hbm, ⟨4, _⟩ => ⟨S128, .f32⟩
  | .hbm, ⟨5, _⟩ => ⟨S16x2304x4x2x64, .f32⟩
  | .hbm, ⟨6, _⟩ => ⟨S16x2048x4x2x64, .f32⟩
  | .hbm, ⟨7, _⟩ => ⟨S16x2304x4x2x64, .f32⟩
  | .hbm, ⟨8, _⟩ => ⟨S16x2304x4x128, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16x2048x4x1x64, .f32⟩
  | .hbm, ⟨29, _⟩ => ⟨S16x2048x4x64, .f32⟩
  | .hbm, ⟨30, _⟩ => ⟨S16x2304x4x1x64, .f32⟩
  | .hbm, ⟨31, _⟩ => ⟨S16x2304x4x64, .f32⟩
  | .hbm, ⟨32, _⟩ => ⟨S16x4x2048x2304, .f32⟩
  | .hbm, ⟨33, _⟩ => ⟨S_, .f32⟩
  | .hbm, ⟨34, _⟩ => ⟨S16x4x2048x2304, .f32⟩
  | .hbm, ⟨35, _⟩ => ⟨S16x4x2048x2304, .f32⟩
  | .hbm, ⟨36, _⟩ => ⟨S16x2048x4x1x64, .f32⟩
  | .hbm, ⟨37, _⟩ => ⟨S16x2048x4x64, .f32⟩
  | .hbm, ⟨38, _⟩ => ⟨S16x2304x4x1x64, .f32⟩
  | .hbm, ⟨39, _⟩ => ⟨S16x2304x4x64, .f32⟩
  | .hbm, ⟨40, _⟩ => ⟨S16x4x2048x2304, .f32⟩
  | .hbm, ⟨41, _⟩ => ⟨S_, .f32⟩
  | .hbm, ⟨42, _⟩ => ⟨S16x4x2048x2304, .f32⟩
  | .hbm, ⟨43, _⟩ => ⟨S16x4x2048x2304, .f32⟩
  | .hbm, ⟨44, _⟩ => ⟨S_, .f32⟩
  | .hbm, ⟨45, _⟩ => ⟨S16x4x2048, .f32⟩
  | .hbm, ⟨46, _⟩ => ⟨S_, .f32⟩
  | .hbm, ⟨47, _⟩ => ⟨S16x4x2048, .f32⟩
  | .hbm, ⟨48, _⟩ => ⟨S16x4x2048, .f32⟩
  | .hbm, ⟨49, _⟩ => ⟨S16x4x2048x1, .f32⟩
  | .hbm, ⟨50, _⟩ => ⟨S16x4x2048x2304, .f32⟩
  | .hbm, ⟨51, _⟩ => ⟨S16x4x2048x2304, .f32⟩
  | .hbm, ⟨52, _⟩ => ⟨S16x4x2048x2304, .f32⟩
  | .hbm, ⟨53, _⟩ => ⟨S_, .f32⟩
  | .hbm, ⟨54, _⟩ => ⟨S16x4x2048, .f32⟩
  | .hbm, ⟨55, _⟩ => ⟨S16x4x2048x1, .f32⟩
  | .hbm, ⟨56, _⟩ => ⟨S16x4x2048x2304, .f32⟩
  | .hbm, ⟨57, _⟩ => ⟨S16x4x2048x2304, .f32⟩
  | .hbm, ⟨58, _⟩ => ⟨S_, .f32⟩
  | .hbm, ⟨59, _⟩ => ⟨S16x4x2048, .f32⟩
  | .hbm, ⟨60, _⟩ => ⟨S_, .f32⟩
  | .hbm, ⟨61, _⟩ => ⟨S16x4x2048, .f32⟩
  | .hbm, ⟨62, _⟩ => ⟨S16x4x2048, .f32⟩
  | .hbm, ⟨63, _⟩ => ⟨S16x4x2048x1, .f32⟩
  | .hbm, ⟨64, _⟩ => ⟨S16x4x2048x2304, .f32⟩
  | .hbm, ⟨65, _⟩ => ⟨S16x4x2048x2304, .f32⟩
  | .hbm, ⟨66, _⟩ => ⟨S16x4x2048x2304, .f32⟩
  | .hbm, ⟨67, _⟩ => ⟨S_, .f32⟩
  | .hbm, ⟨68, _⟩ => ⟨S16x4x2048, .f32⟩
  | .hbm, ⟨69, _⟩ => ⟨S16x4x2048x1, .f32⟩
  | .hbm, ⟨70, _⟩ => ⟨S16x4x2048x2304, .f32⟩
  | .hbm, ⟨71, _⟩ => ⟨S16x4x2048x2304, .f32⟩
  | .hbm, ⟨72, _⟩ => ⟨S16x4x2048x2304, .f32⟩
  | .hbm, ⟨73, _⟩ => ⟨S16x4x2048x2304, .f32⟩
  | .hbm, ⟨74, _⟩ => ⟨S16x4x2048x2304, .f32⟩
  | .hbm, ⟨75, _⟩ => ⟨S16x4x128x2048, .f32⟩
  | .hbm, ⟨76, _⟩ => ⟨S16x2048x4x128, .f32⟩
  | .hbm, ⟨77, _⟩ => ⟨S16x2048x4x128, .f32⟩
  | .hbm, ⟨78, _⟩ => ⟨S_, .f32⟩
  | .hbm, ⟨79, _⟩ => ⟨S16x2048x4, .f32⟩
  | .hbm, ⟨80, _⟩ => ⟨S16x2048x4x1, .f32⟩
  | .hbm, ⟨81, _⟩ => ⟨S_, .f32⟩
  | .hbm, ⟨82, _⟩ => ⟨S16x2048x4x1, .f32⟩
  | .hbm, ⟨83, _⟩ => ⟨S16x2048x4x1, .f32⟩
  | .hbm, ⟨84, _⟩ => ⟨S_, .f32⟩
  | .hbm, ⟨85, _⟩ => ⟨S16x2048x4x1, .f32⟩
  | .hbm, ⟨86, _⟩ => ⟨S16x2048x4x1, .f32⟩
  | .hbm, ⟨87, _⟩ => ⟨S16x2048x4x1, .f32⟩
  | .hbm, ⟨88, _⟩ => ⟨S16x2048x4x128, .f32⟩
  | .hbm, ⟨89, _⟩ => ⟨S16x2048x4x128, .f32⟩
  | .hbm, ⟨90, _⟩ => ⟨S1x1x1x128, .f32⟩
  | .hbm, ⟨91, _⟩ => ⟨S16x2048x4x128, .f32⟩
  | .hbm, ⟨92, _⟩ => ⟨S16x2048x4x128, .f32⟩
  | .hbm, ⟨93, _⟩ => ⟨S_, .f32⟩
  | .hbm, ⟨94, _⟩ => ⟨S16x2048x4x128, .f32⟩
  | .hbm, ⟨95, _⟩ => ⟨S16x2048x4x128, .f32⟩
  | .hbm, ⟨96, _⟩ => ⟨S32768x512, .f32⟩
  | .hbm, ⟨97, _⟩ => ⟨S32768x512, .bf16⟩
  | _, _ => ⟨S36864x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_13 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Kernel2.lean ====
abbrev S36864x1024 : Shape := ⟨2, ![36864, 1024]⟩
abbrev S1024x2816 : Shape := ⟨2, ![1024, 2816]⟩
abbrev S2816x1024 : Shape := ⟨2, ![2816, 1024]⟩
abbrev S1024 : Shape := ⟨1, ![1024]⟩
abbrev S4x6x24x1024 : Shape := ⟨4, ![4, 6, 24, 1024]⟩
abbrev S1x1024 : Shape := ⟨2, ![1, 1024]⟩
abbrev S4x6x24x1x1024 : Shape := ⟨5, ![4, 6, 24, 1, 1024]⟩
abbrev S256x1024 : Shape := ⟨2, ![256, 1024]⟩
abbrev S1x1x1x1x1024 : Shape := ⟨5, ![1, 1, 1, 1, 1024]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩
abbrev S256 : Shape := ⟨1, ![256]⟩
abbrev S256x1 : Shape := ⟨2, ![256, 1]⟩

abbrev nBuf : Space → Nat
  | .hbm => 14
  | .vmem => 12
  | .smem => 0
  | _ => 0

abbrev bufTy : (tb : Table) → Fin (tcTables nBuf tb) → BufTy
  | .hbm, ⟨0, _⟩ => ⟨S36864x1024, .f32⟩
  | .hbm, ⟨1, _⟩ => ⟨S36864x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4x6x24x1024, .f32⟩
  | .hbm, ⟨7, _⟩ => ⟨S36864x1024, .bf16⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S4x6x24x1x1024, .f32⟩
  | .hbm, ⟨13, _⟩ => ⟨S36864x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S256x1024, .f32⟩
  | .local _ .vmem, ⟨11, _⟩ => ⟨S256x1024, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c16_i32 : BitVec 32 := 16#32
  let v28 : BitVec 32 := Scalar.select v10 c16_i32 v27
  let c0_i32_11 : BitVec 32 := 0#32
  let c5_i32 : BitVec 32 := 5#32
  let c0_i32_12 : BitVec 32 := 0#32
  let c0_i32_13 : BitVec 32 := 0#32
  let c0_i32_14 : BitVec 32 := 0#32
  ![c0_i32_11.toNat, c5_i32.toNat, v28.toNat, c0_i32_12.toNat, c0_i32_13.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S36864x1024 : Shape := ⟨2, ![36864, 1024]⟩
abbrev S1024x2816 : Shape := ⟨2, ![1024, 2816]⟩
abbrev S2816x1024 : Shape := ⟨2, ![2816, 1024]⟩
abbrev S1024 : Shape := ⟨1, ![1024]⟩
abbrev S4x6x24x1024 : Shape := ⟨4, ![4, 6, 24, 1024]⟩
abbrev S1x1x16x1024 : Shape := ⟨4, ![1, 1, 16, 1024]⟩
abbrev S16x1024 : Shape := ⟨2, ![16, 1024]⟩
abbrev S16x1x1024 : Shape := ⟨3, ![16, 1, 1024]⟩
abbrev S1x1x1x1024 : Shape := ⟨4, ![1, 1, 1, 1024]⟩
abbrev S16x256x1024 : Shape := ⟨3, ![16, 256, 1024]⟩
abbrev S16x2048x1024 : Shape := ⟨3, ![16, 2048, 1024]⟩
abbrev S16x2304x1024 : Shape := ⟨3, ![16, 2304, 1024]⟩
abbrev S36864x2816 : Shape := ⟨2, ![36864, 2816]⟩
abbrev S_ : Shape := ⟨0, ![]⟩
abbrev S36864 : Shape := ⟨1, ![36864]⟩
abbrev S36864x1 : Shape := ⟨2, ![36864, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S36864x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4x6x24x1024, .f32⟩
  | .hbm, ⟨7, _⟩ => ⟨S1x1x16x1024, .f32⟩
  | .hbm, ⟨8, _⟩ => ⟨S16x1024, .f32⟩
  | .hbm, ⟨9, _⟩ => ⟨S16x1x1024, .f32⟩
  | .hbm, ⟨10, _⟩ => ⟨S1x1x1x1024, .f32⟩
  | .hbm, ⟨11, _⟩ => ⟨S1024, .f32⟩
  | .hbm, ⟨12, _⟩ => ⟨S16x256x1024, .f32⟩
  | .hbm, ⟨13, _⟩ => ⟨S16x2048x1024, .f32⟩
  | .hbm, ⟨14, _⟩ => ⟨S16x2304x1024, .f32⟩
  | .hbm, ⟨15, _⟩ => ⟨S36864x1024, .f32⟩
  | .hbm, ⟨16, _⟩ => ⟨S36864x2816, .f32⟩
  | .hbm, ⟨17, _⟩ => ⟨S36864x2816, .f32⟩
  | .hbm, ⟨18, _⟩ => ⟨S36864x2816, .f32⟩
  | .hbm, ⟨19, _⟩ => ⟨S_, .f32⟩
  | .hbm, ⟨20, _⟩ => ⟨S36864x2816, .f32⟩
  | .hbm, ⟨21, _⟩ => ⟨S36864x2816, .f32⟩
  | .hbm, ⟨22, _⟩ => ⟨S_, .f32⟩
  | .hbm, ⟨23, _⟩ => ⟨S36864x2816, .f32⟩
  | .hbm, ⟨24, _⟩ => ⟨S36864x2816, .f32⟩
  | .hbm, ⟨25, _⟩ => ⟨S36864x2816, .f32⟩
  | .hbm, ⟨26, _⟩ => ⟨S36864x2816, .f32⟩
  | .hbm, ⟨27, _⟩ => ⟨S36864x2816, .f32⟩
  | .hbm, ⟨28, _⟩ => ⟨S36864x1024, .f32⟩
  | .hbm, ⟨29, _⟩ => ⟨S36864x1024, .f32⟩
  | .hbm, ⟨30, _⟩ => ⟨S_, .f32⟩
  | .hbm, ⟨31, _⟩ => ⟨S36864, .f32⟩
  | .hbm, ⟨32, _⟩ => ⟨S36864x1, .f32⟩
  | .hbm, ⟨33, _⟩ => ⟨S_, .f32⟩
  | .hbm, ⟨34, _⟩ => ⟨S36864x1, .f32⟩
  | .hbm, ⟨35, _⟩ => ⟨S36864x1, .f32⟩
  | .hbm, ⟨36, _⟩ => ⟨S_, .f32⟩
  | .hbm, ⟨37, _⟩ => ⟨S36864x1, .f32⟩
  | .hbm, ⟨38, _⟩ => ⟨S36864x1, .f32⟩
  | .hbm, ⟨39, _⟩ => ⟨S36864x1, .f32⟩
  | .hbm, ⟨40, _⟩ => ⟨S36864x1024, .f32⟩
  | .hbm, ⟨41, _⟩ => ⟨S36864x1024, .f32⟩
  | .hbm, ⟨42, _⟩ => ⟨S1x1024, .f32⟩
  | .hbm, ⟨43, _⟩ => ⟨S36864x1024, .f32⟩
  | .hbm, ⟨44, _⟩ => ⟨S36864x1024, .f32⟩
  | .hbm, ⟨45, _⟩ => ⟨S36864x1024, .f32⟩
  | .hbm, ⟨46, _⟩ => ⟨S36864x1024, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Kernel3.lean ====
abbrev S36864x1024 : Shape := ⟨2, ![36864, 1024]⟩
abbrev S296 : Shape := ⟨1, ![296]⟩
abbrev S75776 : Shape := ⟨1, ![75776]⟩
abbrev S8x1024x2816 : Shape := ⟨3, ![8, 1024, 2816]⟩
abbrev S8x2816x1024 : Shape := ⟨3, ![8, 2816, 1024]⟩
abbrev S294912x128 : Shape := ⟨2, ![294912, 128]⟩
abbrev S296x1x256 : Shape := ⟨3, ![296, 1, 256]⟩
abbrev S606208x128 : Shape := ⟨2, ![606208, 128]⟩
abbrev S1x1x256 : Shape := ⟨3, ![1, 1, 256]⟩
abbrev S1x1024x2816 : Shape := ⟨3, ![1, 1024, 2816]⟩
abbrev S1 : Shape := ⟨1, ![1]⟩
abbrev S1x2816x1024 : Shape := ⟨3, ![1, 2816, 1024]⟩
abbrev S2048x128 : Shape := ⟨2, ![2048, 128]⟩
abbrev S3x2048x128 : Shape := ⟨3, ![3, 2048, 128]⟩
abbrev S3 : Shape := ⟨1, ![3]⟩
abbrev S1x1x1 : Shape := ⟨3, ![1, 1, 1]⟩
abbrev S_ : Shape := ⟨0, ![]⟩
abbrev S1x2048x128 : Shape := ⟨3, ![1, 2048, 128]⟩
abbrev S8x128 : Shape := ⟨2, ![8, 128]⟩
abbrev S256x128 : Shape := ⟨2, ![256, 128]⟩
abbrev S256x1024 : Shape := ⟨2, ![256, 1024]⟩
abbrev S1x1024x1536 : Shape := ⟨3, ![1, 1024, 1536]⟩
abbrev S1024x1536 : Shape := ⟨2, ![1024, 1536]⟩
abbrev S256x1536 : Shape := ⟨2, ![256, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S256x1280 : Shape := ⟨2, ![256, 1280]⟩
abbrev S1x1280x1024 : Shape := ⟨3, ![1, 1280, 1024]⟩
abbrev S1280x1024 : Shape := ⟨2, ![1280, 1024]⟩

abbrev nBuf : Space → Nat
  | .hbm => 11
  | .vmem => 9
  | .smem => 8
  | _ => 0

abbrev bufTy : (tb : Table) → Fin (tcTables nBuf tb) → BufTy
  | .hbm, ⟨0, _⟩ => ⟨S36864x1024, .f32⟩
  | .hbm, ⟨1, _⟩ => ⟨S75776, .i32⟩
  | .hbm, ⟨2, _⟩ => ⟨S8x1024x2816, .f32⟩
  | .hbm, ⟨3, _⟩ => ⟨S8x1024x2816, .f32⟩
  | .hbm, ⟨4, _⟩ => ⟨S8x2816x1024, .f32⟩
  | .hbm, ⟨5, _⟩ => ⟨S294912x128, .f32⟩
  | .hbm, ⟨6, _⟩ => ⟨S8x1024x2816, .bf16⟩
  | .hbm, ⟨7, _⟩ => ⟨S8x1024x2816, .bf16⟩
  | .hbm, ⟨8, _⟩ => ⟨S8x2816x1024, .bf16⟩
  | .hbm, ⟨9, _⟩ => ⟨S296x1x256, .i32⟩
  | .hbm, ⟨10, _⟩ => ⟨S606208x128, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S2048x128, .f32⟩
  | .local _ .vmem, ⟨7, _⟩ => ⟨S2048x128, .f32⟩
  | .local _ .vmem, ⟨8, _⟩ => ⟨S3x2048x128, .f32⟩
  | .local _ .smem, ⟨0, _⟩ => ⟨S296, .i32⟩
  | .local _ .smem, ⟨1, _⟩ => ⟨S296, .i32⟩
  | .local _ .smem, ⟨2, _⟩ => ⟨S1x1x256, .i32⟩
  | .local _ .smem, ⟨3, _⟩ => ⟨S1x1x256, .i32⟩
  | .local _ .smem, ⟨4, _⟩ => ⟨S1x1x256, .i32⟩
  | .local _ .smem, ⟨5, _⟩ => ⟨S1x1x256, .i32⟩
  | .local _ .smem, ⟨6, _⟩ => ⟨S1x1x256, .i32⟩
  | .local _ .smem, ⟨7, _⟩ => ⟨S1x1x256, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg1 : Ref sig .tc := ⟨.smem, 0, rfl⟩
abbrev main_arg2 : Ref sig .tc := ⟨.smem, 1, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_stg2_0 : Ref sig .tc := ⟨.smem, 6, rfl⟩
abbrev cc0_stg2_1 : Ref sig .tc := ⟨.smem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![296], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_3 : BitVec 32 := 0#32
  let v10 : BitVec 1 := Scalar.cmpi .ne v9 c0_i32_3
  v10

@[reducible] def k0_t1_loop : Scf.Loop 32 :=
  let c0_i32_10 : BitVec 32 := 0#32
  let c256_i32_11 : BitVec 32 := 256#32
  let v20 : BitVec 32 := Scalar.addi c0_i32_10 c256_i32_11
  let c1_i32_12 : BitVec 32 := 1#32
  ⟨c0_i32_10, v20, c1_i32_12⟩
def k0_off2 (k0_t1 : Fin k0_t1_loop.trips) : Fin 3 → Nat :=
  let c0 : Index := 0#32
  let c0_18 : Index := 0#32
  let c0_i32_10 : BitVec 32 := 0#32
  let c1_i32_12 : BitVec 32 := 1#32
  let arg13 : BitVec 32 := Scf.iv c0_i32_10 c1_i32_12 k0_t1
  let v22 : Index := Scalar.indexCast arg13
  ![0, 0, v22.toNat]
def k0_mult1 (v23 : BitVec 32) : BitVec 32 :=
  let c8_i32 : BitVec 32 := 8#32
  let v24 : BitVec 32 := Scalar.muli v23 c8_i32
  v24

def k0_mult2 (k0_t1 : Fin k0_t1_loop.trips) : BitVec 32 :=
  let c0_i32_10 : BitVec 32 := 0#32
  let c1_i32_12 : BitVec 32 := 1#32
  let arg13 : BitVec 32 := Scf.iv c0_i32_10 c1_i32_12 k0_t1
  let c8_i32_19 : BitVec 32 := 8#32
  let v26 : BitVec 32 := Scalar.muli arg13 c8_i32_19
  v26
def k0_off3 (k0_t1 : Fin k0_t1_loop.trips) : Fin 2 → Nat :=
  let c0_i32_10 : BitVec 32 := 0#32
  let c1_i32_12 : BitVec 32 := 1#32
  let arg13 : BitVec 32 := Scf.iv c0_i32_10 c1_i32_12 k0_t1
  let c8_i32_19 : BitVec 32 := 8#32
  let v26 : BitVec 32 := Scalar.muli arg13 c8_i32_19
  let v27 : BitVec 32 := v26
  let c0_i32_24 : BitVec 32 := 0#32
  ![v27.toNat, 0]
def k0_off4 (v23 : BitVec 32) : Fin 2 → Nat :=
  let c8_i32 : BitVec 32 := 8#32
  let v24 : BitVec 32 := Scalar.muli v23 c8_i32
  let v25 : BitVec 32 := v24
  let c0_i32_25 : BitVec 32 := 0#32
  ![v25.toNat, 0]

def k0_chk1 (i : grid0.Coords) (v23 : BitVec 32) : Prop :=
  (∀ (k0_h1 : k0_cond1 i = 1#1), 8 ∣ (k0_mult1 v23).toNat) ∧
  (∀ (k0_h1 : k0_cond1 i = 1#1), ∀ a, (k0_off4 v23) a + S8x128.size a ≤ S294912x128.size a)
theorem k0_mult1_dvd : ∀ (i : grid0.Coords) (v23 : BitVec 32) (k0_hw1 : k0_chk1 i v23), ∀ (k0_h1 : k0_cond1 i = 1#1), 8 ∣ (k0_mult1 v23).toNat := fun i v23 k0_hw1 k0_h1 => k0_hw1.1 k0_h1
theorem k0_off4_inb : ∀ (i : grid0.Coords) (v23 : BitVec 32) (k0_hw1 : k0_chk1 i v23), ∀ (k0_h1 : k0_cond1 i = 1#1), ∀ a, (k0_off4 v23) a + S8x128.size a ≤ S294912x128.size a := fun i v23 k0_hw1 k0_h1 => k0_hw1.2 k0_h1

@[reducible] def k0_t2_loop : Scf.Loop 32 :=
  let c0_i32_14 : BitVec 32 := 0#32
  let c256_i32_15 : BitVec 32 := 256#32
  let v21 : BitVec 32 := Scalar.addi c0_i32_14 c256_i32_15
  let c1_i32_16 : BitVec 32 := 1#32
  ⟨c0_i32_14, v21, c1_i32_16⟩
def k0_off5 (k0_t2 : Fin k0_t2_loop.trips) : Fin 3 → Nat :=
  let c0 : Index := 0#32
  let c0_18 : Index := 0#32
  let c0_i32_14 : BitVec 32 := 0#32
  let c1_i32_16 : BitVec 32 := 1#32
  let arg13 : BitVec 32 := Scf.iv c0_i32_14 c1_i32_16 k0_t2
  let v22 : Index := Scalar.indexCast arg13
  ![0, 0, v22.toNat]
def k0_mult3 (v23 : BitVec 32) : BitVec 32 :=
  let c8_i32 : BitVec 32 := 8#32
  let v24 : BitVec 32 := Scalar.muli v23 c8_i32
  v24

def k0_mult4 (k0_t2 : Fin k0_t2_loop.trips) : BitVec 32 :=
  let c0_i32_14 : BitVec 32 := 0#32
  let c1_i32_16 : BitVec 32 := 1#32
  let arg13 : BitVec 32 := Scf.iv c0_i32_14 c1_i32_16 k0_t2
  let c8_i32_19 : BitVec 32 := 8#32
  let v26 : BitVec 32 := Scalar.muli arg13 c8_i32_19
  v26
def k0_off6 (k0_t2 : Fin k0_t2_loop.trips) : Fin 2 → Nat :=
  let c0_i32_14 : BitVec 32 := 0#32
  let c1_i32_16 : BitVec 32 := 1#32
  let arg13 : BitVec 32 := Scf.iv c0_i32_14 c1_i32_16 k0_t2
  let c8_i32_19 : BitVec 32 := 8#32
  let v26 : BitVec 32 := Scalar.muli arg13 c8_i32_19
  let v27 : BitVec 32 := v26
  let c0_i32_24 : BitVec 32 := 0#32
  ![v27.toNat, 0]
def k0_off7 (v23 : BitVec 32) : Fin 2 → Nat :=
  let c8_i32 : BitVec 32 := 8#32
  let v24 : BitVec 32 := Scalar.muli v23 c8_i32
  let v25 : BitVec 32 := v24
  let c0_i32_25 : BitVec 32 := 0#32
  ![v25.toNat, 0]

def k0_chk2 (i : grid0.Coords) (v23 : BitVec 32) : Prop :=
  (∀ (k0_h1 : k0_cond1 i = 1#1), 8 ∣ (k0_mult3 v23).toNat) ∧
  (∀ (k0_h1 : k0_cond1 i = 1#1), ∀ a, (k0_off7 v23) a + S8x128.size a ≤ S294912x128.size a)
theorem k0_mult3_dvd : ∀ (i : grid0.Coords) (v23 : BitVec 32) (k0_hw2 : k0_chk2 i v23), ∀ (k0_h1 : k0_cond1 i = 1#1), 8 ∣ (k0_mult3 v23).toNat := fun i v23 k0_hw2 k0_h1 => k0_hw2.1 k0_h1
theorem k0_off7_inb : ∀ (i : grid0.Coords) (v23 : BitVec 32) (k0_hw2 : k0_chk2 i v23), ∀ (k0_h1 : k0_cond1 i = 1#1), ∀ a, (k0_off7 v23) a + S8x128.size a ≤ S294912x128.size a := fun i v23 k0_hw2 k0_h1 => k0_hw2.2 k0_h1

@[reducible] def k0_t3_loop : Scf.Loop 32 :=
  let c0_i32_4 : BitVec 32 := 0#32
  let c256_i32 : BitVec 32 := 256#32
  let v11 : BitVec 32 := Scalar.addi c0_i32_4 c256_i32
  let c1_i32_5 : BitVec 32 := 1#32
  ⟨c0_i32_4, v11, c1_i32_5⟩
def k0_mult5 : BitVec 32 :=
  let c0_i32_10 : BitVec 32 := 0#32
  c0_i32_10
def k0_mult6 (k0_t3 : Fin k0_t3_loop.trips) : BitVec 32 :=
  let c0_i32_4 : BitVec 32 := 0#32
  let c1_i32_5 : BitVec 32 := 1#32
  let arg13 : BitVec 32 := Scf.iv c0_i32_4 c1_i32_5 k0_t3
  let c8_i32 : BitVec 32 := 8#32
  let v21 : BitVec 32 := Scalar.muli arg13 c8_i32
  v21
def k0_off8 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off9 (i : grid0.Coords) : Fin 3 → Nat :=
  let arg0 : BitVec 32 := BitVec.ofNat 32 (i 0).val
  let c3_i32 : BitVec 32 := 3#32
  let v3 : BitVec 32 := Scalar.remsi arg0 c3_i32
  let c0_i32_11 : BitVec 32 := 0#32
  let c0_i32_12 : BitVec 32 := 0#32
  ![v3.toNat, 0, 0]
def k0_off10 (k0_t3 : Fin k0_t3_loop.trips) : Fin 2 → Nat :=
  let c0_i32_4 : BitVec 32 := 0#32
  let c1_i32_5 : BitVec 32 := 1#32
  let arg13 : BitVec 32 := Scf.iv c0_i32_4 c1_i32_5 k0_t3
  let c8_i32 : BitVec 32 := 8#32
  let v21 : BitVec 32 := Scalar.muli arg13 c8_i32
  let v22 : BitVec 32 := v21
  let c0_i32_13 : BitVec 32 := 0#32
  ![v22.toNat, 0]
def k0_off11 (i : grid0.Coords) : Fin 3 → Nat :=
  let arg0 : BitVec 32 := BitVec.ofNat 32 (i 0).val
  let c3_i32 : BitVec 32 := 3#32
  let v3 : BitVec 32 := Scalar.remsi arg0 c3_i32
  let c0_i32_10 : BitVec 32 := 0#32
  let c0_i32_11 : BitVec 32 := 0#32
  ![v3.toNat, 0, 0]
@[reducible] def k0_t4_loop : Scf.Loop 32 :=
  let c0_i32_78 : BitVec 32 := 0#32
  let c256_i32_79 : BitVec 32 := 256#32
  let v101 : BitVec 32 := Scalar.addi c0_i32_78 c256_i32_79
  let c1_i32_80 : BitVec 32 := 1#32
  ⟨c0_i32_78, v101, c1_i32_80⟩
def k0_off12 (k0_t4 : Fin k0_t4_loop.trips) : Fin 3 → Nat :=
  let c0_82 : Index := 0#32
  let c0_83 : Index := 0#32
  let c0_i32_78 : BitVec 32 := 0#32
  let c1_i32_80 : BitVec 32 := 1#32
  let arg13 : BitVec 32 := Scf.iv c0_i32_78 c1_i32_80 k0_t4
  let v102 : Index := Scalar.indexCast arg13
  ![0, 0, v102.toNat]
def k0_mult7 (v103 : BitVec 32) : BitVec 32 :=
  let c8_i32 : BitVec 32 := 8#32
  let v104 : BitVec 32 := Scalar.muli v103 c8_i32
  v104
def k0_cond2 (v1 : BitVec 32) : BitVec 1 :=
  let c1_i32 : BitVec 32 := 1#32
  let v2 : BitVec 1 := Scalar.cmpi .eq v1 c1_i32
  let v12 : BitVec 32 := Scalar.extui v2
  let c0_i32_7 : BitVec 32 := 0#32
  let v13 : BitVec 1 := Scalar.cmpi .ne v12 c0_i32_7
  v13

def k0_mult8 (k0_t4 : Fin k0_t4_loop.trips) : BitVec 32 :=
  let c0_i32_78 : BitVec 32 := 0#32
  let c1_i32_80 : BitVec 32 := 1#32
  let arg13 : BitVec 32 := Scf.iv c0_i32_78 c1_i32_80 k0_t4
  let c8_i32_84 : BitVec 32 := 8#32
  let v106 : BitVec 32 := Scalar.muli arg13 c8_i32_84
  v106
def k0_off13 (i : grid0.Coords) : Fin 1 → Nat :=
  let arg0 : BitVec 32 := BitVec.ofNat 32 (i 0).val
  let c2_i32 : BitVec 32 := 2#32
  let v6 : BitVec 32 := Scalar.addi arg0 c2_i32
  let c3_i32_2 : BitVec 32 := 3#32
  let v7 : BitVec 32 := Scalar.remsi v6 c3_i32_2
  ![v7.toNat]
def k0_off14 (i : grid0.Coords) : Fin 3 → Nat :=
  let arg0 : BitVec 32 := BitVec.ofNat 32 (i 0).val
  let c2_i32 : BitVec 32 := 2#32
  let v6 : BitVec 32 := Scalar.addi arg0 c2_i32
  let c3_i32_2 : BitVec 32 := 3#32
  let v7 : BitVec 32 := Scalar.remsi v6 c3_i32_2
  let c0_i32_85 : BitVec 32 := 0#32
  let c0_i32_86 : BitVec 32 := 0#32
  ![v7.toNat, 0, 0]
def k0_off15 (k0_t4 : Fin k0_t4_loop.trips) : Fin 2 → Nat :=
  let c0_i32_78 : BitVec 32 := 0#32
  let c1_i32_80 : BitVec 32 := 1#32
  let arg13 : BitVec 32 := Scf.iv c0_i32_78 c1_i32_80 k0_t4
  let c8_i32_84 : BitVec 32 := 8#32
  let v106 : BitVec 32 := Scalar.muli arg13 c8_i32_84
  let v107 : BitVec 32 := v106
  let c0_i32_87 : BitVec 32 := 0#32
  ![v107.toNat, 0]
def k0_off16 (v103 : BitVec 32) : Fin 2 → Nat :=
  let c8_i32 : BitVec 32 := 8#32
  let v104 : BitVec 32 := Scalar.muli v103 c8_i32
  let v105 : BitVec 32 := v104
  let c0_i32_88 : BitVec 32 := 0#32
  ![v105.toNat, 0]

def k0_chk3 (v1 : BitVec 32) (v103 : BitVec 32) : Prop :=
  (∀ (k0_h2 : k0_cond2 v1 = 1#1), 8 ∣ (k0_mult7 v103).toNat) ∧
  (∀ (k0_h2 : k0_cond2 v1 = 1#1), ∀ a, (k0_off16 v103) a + S8x128.size a ≤ S294912x128.size a)
theorem k0_mult7_dvd : ∀ (v1 : BitVec 32) (v103 : BitVec 32) (k0_hw3 : k0_chk3 v1 v103), ∀ (k0_h2 : k0_cond2 v1 = 1#1), 8 ∣ (k0_mult7 v103).toNat := fun v1 v103 k0_hw3 k0_h2 => k0_hw3.1 k0_h2
theorem k0_off16_inb : ∀ (v1 : BitVec 32) (v103 : BitVec 32) (k0_hw3 : k0_chk3 v1 v103), ∀ (k0_h2 : k0_cond2 v1 = 1#1), ∀ a, (k0_off16 v103) a + S8x128.size a ≤ S294912x128.size a := fun v1 v103 k0_hw3 k0_h2 => k0_hw3.2 k0_h2

@[reducible] def k0_t5_loop : Scf.Loop 32 :=
  let c0_i32_11 : BitVec 32 := 0#32
  let c256_i32_12 : BitVec 32 := 256#32
  let v22 : BitVec 32 := Scalar.addi c0_i32_11 c256_i32_12
  let c1_i32_13 : BitVec 32 := 1#32
  ⟨c0_i32_11, v22, c1_i32_13⟩
def k0_off17 (k0_t5 : Fin k0_t5_loop.trips) : Fin 3 → Nat :=
  let c0_15 : Index := 0#32
  let c0_16 : Index := 0#32
  let c0_i32_11 : BitVec 32 := 0#32
  let c1_i32_13 : BitVec 32 := 1#32
  let arg13 : BitVec 32 := Scf.iv c0_i32_11 c1_i32_13 k0_t5
  let v23 : Index := Scalar.indexCast arg13
  ![0, 0, v23.toNat]
def k0_mult9 (v24 : BitVec 32) : BitVec 32 :=
  let c8_i32 : BitVec 32 := 8#32
  let v25 : BitVec 32 := Scalar.muli v24 c8_i32
  v25
def k0_cond3 (v1 : BitVec 32) : BitVec 1 :=
  let c1_i32 : BitVec 32 := 1#32
  let v2 : BitVec 1 := Scalar.cmpi .eq v1 c1_i32
  let v_true : BitVec 1 := 1#1
  let v14 : BitVec 1 := Scalar.xori v2 v_true
  let v15 : BitVec 32 := Scalar.extui v14
  let c0_i32_8 : BitVec 32 := 0#32
  let v16 : BitVec 1 := Scalar.cmpi .ne v15 c0_i32_8
  v16

def k0_mult10 (k0_t5 : Fin k0_t5_loop.trips) : BitVec 32 :=
  let c0_i32_11 : BitVec 32 := 0#32
  let c1_i32_13 : BitVec 32 := 1#32
  let arg13 : BitVec 32 := Scf.iv c0_i32_11 c1_i32_13 k0_t5
  let c8_i32_17 : BitVec 32 := 8#32
  let v27 : BitVec 32 := Scalar.muli arg13 c8_i32_17
  v27
def k0_off18 (i : grid0.Coords) : Fin 1 → Nat :=
  let arg0 : BitVec 32 := BitVec.ofNat 32 (i 0).val
  let c2_i32 : BitVec 32 := 2#32
  let v6 : BitVec 32 := Scalar.addi arg0 c2_i32
  let c3_i32_2 : BitVec 32 := 3#32
  let v7 : BitVec 32 := Scalar.remsi v6 c3_i32_2
  ![v7.toNat]
def k0_off19 (i : grid0.Coords) : Fin 3 → Nat :=
  let arg0 : BitVec 32 := BitVec.ofNat 32 (i 0).val
  let c2_i32 : BitVec 32 := 2#32
  let v6 : BitVec 32 := Scalar.addi arg0 c2_i32
  let c3_i32_2 : BitVec 32 := 3#32
  let v7 : BitVec 32 := Scalar.remsi v6 c3_i32_2
  let c0_i32_18 : BitVec 32 := 0#32
  let c0_i32_19 : BitVec 32 := 0#32
  ![v7.toNat, 0, 0]
def k0_off20 (k0_t5 : Fin k0_t5_loop.trips) : Fin 2 → Nat :=
  let c0_i32_11 : BitVec 32 := 0#32
  let c1_i32_13 : BitVec 32 := 1#32
  let arg13 : BitVec 32 := Scf.iv c0_i32_11 c1_i32_13 k0_t5
  let c8_i32_17 : BitVec 32 := 8#32
  let v27 : BitVec 32 := Scalar.muli arg13 c8_i32_17
  let v28 : BitVec 32 := v27
  let c0_i32_20 : BitVec 32 := 0#32
  ![v28.toNat, 0]
def k0_off21 (v24 : BitVec 32) : Fin 2 → Nat :=
  let c8_i32 : BitVec 32 := 8#32
  let v25 : BitVec 32 := Scalar.muli v24 c8_i32
  let v26 : BitVec 32 := v25
  let c0_i32_21 : BitVec 32 := 0#32
  ![v26.toNat, 0]

def k0_chk4 (v1 : BitVec 32) (v24 : BitVec 32) : Prop :=
  (∀ (k0_h3 : k0_cond3 v1 = 1#1), 8 ∣ (k0_mult9 v24).toNat) ∧
  (∀ (k0_h3 : k0_cond3 v1 = 1#1), ∀ a, (k0_off21 v24) a + S8x128.size a ≤ S294912x128.size a)
theorem k0_mult9_dvd : ∀ (v1 : BitVec 32) (v24 : BitVec 32) (k0_hw4 : k0_chk4 v1 v24), ∀ (k0_h3 : k0_cond3 v1 = 1#1), 8 ∣ (k0_mult9 v24).toNat := fun v1 v24 k0_hw4 k0_h3 => k0_hw4.1 k0_h3
theorem k0_off21_inb : ∀ (v1 : BitVec 32) (v24 : BitVec 32) (k0_hw4 : k0_chk4 v1 v24), ∀ (k0_h3 : k0_cond3 v1 = 1#1), ∀ a, (k0_off21 v24) a + S8x128.size a ≤ S294912x128.size a := fun v1 v24 k0_hw4 k0_h3 => k0_hw4.2 k0_h3

def k0_cond4 (i : grid0.Coords) : BitVec 1 :=
  let arg0 : BitVec 32 := BitVec.ofNat 32 (i 0).val
  let c295_i32 : BitVec 32 := 295#32
  let v17 : BitVec 1 := Scalar.cmpi .eq arg0 c295_i32
  let v18 : BitVec 32 := Scalar.extui v17
  let c0_i32_9 : BitVec 32 := 0#32
  let v19 : BitVec 1 := Scalar.cmpi .ne v18 c0_i32_9
  v19

@[reducible] def k0_t6_loop : Scf.Loop 32 :=
  let c0_i32_10 : BitVec 32 := 0#32
  let c256_i32_11 : BitVec 32 := 256#32
  let v20 : BitVec 32 := Scalar.addi c0_i32_10 c256_i32_11
  let c1_i32_12 : BitVec 32 := 1#32
  ⟨c0_i32_10, v20, c1_i32_12⟩
def k0_mult11 : BitVec 32 :=
  let c0_i32_18 : BitVec 32 := 0#32
  c0_i32_18
def k0_mult12 (k0_t6 : Fin k0_t6_loop.trips) : BitVec 32 :=
  let c0_i32_10 : BitVec 32 := 0#32
  let c1_i32_12 : BitVec 32 := 1#32
  let arg13 : BitVec 32 := Scf.iv c0_i32_10 c1_i32_12 k0_t6
  let c8_i32 : BitVec 32 := 8#32
  let v23 : BitVec 32 := Scalar.muli arg13 c8_i32
  v23
def k0_off22 (i : grid0.Coords) : Fin 1 → Nat :=
  let arg0 : BitVec 32 := BitVec.ofNat 32 (i 0).val
  let c1_i32_0 : BitVec 32 := 1#32
  let v4 : BitVec 32 := Scalar.addi arg0 c1_i32_0
  let c3_i32_1 : BitVec 32 := 3#32
  let v5 : BitVec 32 := Scalar.remsi v4 c3_i32_1
  ![v5.toNat]
def k0_off23 (i : grid0.Coords) : Fin 3 → Nat :=
  let arg0 : BitVec 32 := BitVec.ofNat 32 (i 0).val
  let c1_i32_0 : BitVec 32 := 1#32
  let v4 : BitVec 32 := Scalar.addi arg0 c1_i32_0
  let c3_i32_1 : BitVec 32 := 3#32
  let v5 : BitVec 32 := Scalar.remsi v4 c3_i32_1
  let c0_i32_19 : BitVec 32 := 0#32
  let c0_i32_20 : BitVec 32 := 0#32
  ![v5.toNat, 0, 0]
def k0_off24 (k0_t6 : Fin k0_t6_loop.trips) : Fin 2 → Nat :=
  let c0_i32_10 : BitVec 32 := 0#32
  let c1_i32_12 : BitVec 32 := 1#32
  let arg13 : BitVec 32 := Scf.iv c0_i32_10 c1_i32_12 k0_t6
  let c8_i32 : BitVec 32 := 8#32
  let v23 : BitVec 32 := Scalar.muli arg13 c8_i32
  let v24 : BitVec 32 := v23
  let c0_i32_21 : BitVec 32 := 0#32
  ![v24.toNat, 0]
@[reducible] def k0_t7_loop : Scf.Loop 32 :=
  let c0_i32_14 : BitVec 32 := 0#32
  let c256_i32_15 : BitVec 32 := 256#32
  let v21 : BitVec 32 := Scalar.addi c0_i32_14 c256_i32_15
  let c1_i32_16 : BitVec 32 := 1#32
  ⟨c0_i32_14, v21, c1_i32_16⟩
def k0_mult13 : BitVec 32 :=
  let c0_i32_18 : BitVec 32 := 0#32
  c0_i32_18
def k0_mult14 (k0_t7 : Fin k0_t7_loop.trips) : BitVec 32 :=
  let c0_i32_14 : BitVec 32 := 0#32
  let c1_i32_16 : BitVec 32 := 1#32
  let arg13 : BitVec 32 := Scf.iv c0_i32_14 c1_i32_16 k0_t7
  let c8_i32 : BitVec 32 := 8#32
  let v23 : BitVec 32 := Scalar.muli arg13 c8_i32
  v23
def k0_off25 (i : grid0.Coords) : Fin 1 → Nat :=
  let arg0 : BitVec 32 := BitVec.ofNat 32 (i 0).val
  let c2_i32 : BitVec 32 := 2#32
  let v6 : BitVec 32 := Scalar.addi arg0 c2_i32
  let c3_i32_2 : BitVec 32 := 3#32
  let v7 : BitVec 32 := Scalar.remsi v6 c3_i32_2
  ![v7.toNat]
def k0_off26 (i : grid0.Coords) : Fin 3 → Nat :=
  let arg0 : BitVec 32 := BitVec.ofNat 32 (i 0).val
  let c2_i32 : BitVec 32 := 2#32
  let v6 : BitVec 32 := Scalar.addi arg0 c2_i32
  let c3_i32_2 : BitVec 32 := 3#32
  let v7 : BitVec 32 := Scalar.remsi v6 c3_i32_2
  let c0_i32_19 : BitVec 32 := 0#32
  let c0_i32_20 : BitVec 32 := 0#32
  ![v7.toNat, 0, 0]
def k0_off27 (k0_t7 : Fin k0_t7_loop.trips) : Fin 2 → Nat :=
  let c0_i32_14 : BitVec 32 := 0#32
  let c1_i32_16 : BitVec 32 := 1#32
  let arg13 : BitVec 32 := Scf.iv c0_i32_14 c1_i32_16 k0_t7
  let c8_i32 : BitVec 32 := 8#32
  let v23 : BitVec 32 := Scalar.muli arg13 c8_i32
  let v24 : BitVec 32 := v23
  let c0_i32_21 : BitVec 32 := 0#32
  ![v24.toNat, 0]
def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c295_i32 : BitVec 32 := 295#32
  let v1 : BitVec 32 := Scalar.minsi v0 c295_i32
  let c0_i32_0 : BitVec 32 := 0#32
  let c0_i32_1 : BitVec 32 := 0#32
  let c0_i32_2 : BitVec 32 := 0#32
  ![v1.toNat, c0_i32_0.toNat, c0_i32_1.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c295_i32 : BitVec 32 := 295#32
  let v1 : BitVec 32 := Scalar.minsi v0 c295_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.addi arg0 c2_i32
  let c295_i32 : BitVec 32 := 295#32
  let v1 : BitVec 32 := Scalar.minsi v0 c295_i32
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2816x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S36864x1024 : Shape := ⟨2, ![36864, 1024]⟩
abbrev S296 : Shape := ⟨1, ![296]⟩
abbrev S75776 : Shape := ⟨1, ![75776]⟩
abbrev S8x1024x2816 : Shape := ⟨3, ![8, 1024, 2816]⟩
abbrev S8x2816x1024 : Shape := ⟨3, ![8, 2816, 1024]⟩
abbrev S_ : Shape := ⟨0, ![]⟩
abbrev S75776x1 : Shape := ⟨2, ![75776, 1]⟩
abbrev S75776x1024 : Shape := ⟨2, ![75776, 1024]⟩
abbrev S296x256x1024 : Shape := ⟨3, ![296, 256, 1024]⟩
abbrev S296x1 : Shape := ⟨2, ![296, 1]⟩
abbrev S296x1024x2816 : Shape := ⟨3, ![296, 1024, 2816]⟩
abbrev S296x2816x1024 : Shape := ⟨3, ![296, 2816, 1024]⟩
abbrev S296x256x2816 : Shape := ⟨3, ![296, 256, 2816]⟩
abbrev S296x1x1 : Shape := ⟨3, ![296, 1, 1]⟩
abbrev S606208x128 : Shape := ⟨2, ![606208, 128]⟩

abbrev nBuf : Space → Nat
  | .hbm => 67
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S296, .i32⟩
  | .hbm, ⟨2, _⟩ => ⟨S296, .i32⟩
  | .hbm, ⟨3, _⟩ => ⟨S75776, .i32⟩
  | .hbm, ⟨4, _⟩ => ⟨S8x1024x2816, .f32⟩
  | .hbm, ⟨5, _⟩ => ⟨S8x1024x2816, .f32⟩
  | .hbm, ⟨6, _⟩ => ⟨S8x2816x1024, .f32⟩
  | .hbm, ⟨7, _⟩ => ⟨S_, .i32⟩
  | .hbm, ⟨8, _⟩ => ⟨S75776, .i32⟩
  | .hbm, ⟨9, _⟩ => ⟨S75776, .i1⟩
  | .hbm, ⟨10, _⟩ => ⟨S_, .i32⟩
  | .hbm, ⟨11, _⟩ => ⟨S75776, .i32⟩
  | .hbm, ⟨12, _⟩ => ⟨S75776, .i32⟩
  | .hbm, ⟨13, _⟩ => ⟨S75776, .i32⟩
  | .hbm, ⟨14, _⟩ => ⟨S75776x1, .i32⟩
  | .hbm, ⟨15, _⟩ => ⟨S75776x1024, .f32⟩
  | .hbm, ⟨16, _⟩ => ⟨S296x256x1024, .f32⟩
  | .hbm, ⟨17, _⟩ => ⟨S_, .i32⟩
  | .hbm, ⟨18, _⟩ => ⟨S296, .i32⟩
  | .hbm, ⟨19, _⟩ => ⟨S296, .i1⟩
  | .hbm, ⟨20, _⟩ => ⟨S_, .i32⟩
  | .hbm, ⟨21, _⟩ => ⟨S296, .i32⟩
  | .hbm, ⟨22, _⟩ => ⟨S296, .i32⟩
  | .hbm, ⟨23, _⟩ => ⟨S296, .i32⟩
  | .hbm, ⟨24, _⟩ => ⟨S296x1, .i32⟩
  | .hbm, ⟨25, _⟩ => ⟨S296x1024x2816, .f32⟩
  | .hbm, ⟨26, _⟩ => ⟨S_, .i32⟩
  | .hbm, ⟨27, _⟩ => ⟨S296, .i32⟩
  | .hbm, ⟨28, _⟩ => ⟨S296, .i1⟩
  | .hbm, ⟨29, _⟩ => ⟨S_, .i32⟩
  | .hbm, ⟨30, _⟩ => ⟨S296, .i32⟩
  | .hbm, ⟨31, _⟩ => ⟨S296, .i32⟩
  | .hbm, ⟨32, _⟩ => ⟨S296, .i32⟩
  | .hbm, ⟨33, _⟩ => ⟨S296x1, .i32⟩
  | .hbm, ⟨34, _⟩ => ⟨S296x1024x2816, .f32⟩
  | .hbm, ⟨35, _⟩ => ⟨S_, .i32⟩
  | .hbm, ⟨36, _⟩ => ⟨S296, .i32⟩
  | .hbm, ⟨37, _⟩ => ⟨S296, .i1⟩
  | .hbm, ⟨38, _⟩ => ⟨S_, .i32⟩
  | .hbm, ⟨39, _⟩ => ⟨S296, .i32⟩
  | .hbm, ⟨40, _⟩ => ⟨S296, .i32⟩
  | .hbm, ⟨41, _⟩ => ⟨S296, .i32⟩
  | .hbm, ⟨42, _⟩ => ⟨S296x1, .i32⟩
  | .hbm, ⟨43, _⟩ => ⟨S296x2816x1024, .f32⟩
  | .hbm, ⟨44, _⟩ => ⟨S296x256x2816, .f32⟩
  | .hbm, ⟨45, _⟩ => ⟨S296x256x2816, .f32⟩
  | .hbm, ⟨46, _⟩ => ⟨S296x256x2816, .f32⟩
  | .hbm, ⟨47, _⟩ => ⟨S296x256x2816, .f32⟩
  | .hbm, ⟨48, _⟩ => ⟨S_, .f32⟩
  | .hbm, ⟨49, _⟩ => ⟨S296x256x2816, .f32⟩
  | .hbm, ⟨50, _⟩ => ⟨S296x256x2816, .f32⟩
  | .hbm, ⟨51, _⟩ => ⟨S_, .f32⟩
  | .hbm, ⟨52, _⟩ => ⟨S296x256x2816, .f32⟩
  | .hbm, ⟨53, _⟩ => ⟨S296x256x2816, .f32⟩
  | .hbm, ⟨54, _⟩ => ⟨S296x256x2816, .f32⟩
  | .hbm, ⟨55, _⟩ => ⟨S296x256x2816, .f32⟩
  | .hbm, ⟨56, _⟩ => ⟨S296x256x1024, .f32⟩
  | .hbm, ⟨57, _⟩ => ⟨S296x1x1, .i32⟩
  | .hbm, ⟨58, _⟩ => ⟨S_, .i32⟩
  | .hbm, ⟨59, _⟩ => ⟨S296x1x1, .i32⟩
  | .hbm, ⟨60, _⟩ => ⟨S296x1x1, .i1⟩
  | .hbm, ⟨61, _⟩ => ⟨S_, .f32⟩
  | .hbm, ⟨62, _⟩ => ⟨S_, .f32⟩
  | .hbm, ⟨63, _⟩ => ⟨S296x256x1024, .i1⟩
  | .hbm, ⟨64, _⟩ => ⟨S296x256x1024, .f32⟩
  | .hbm, ⟨65, _⟩ => ⟨S296x256x1024, .f32⟩
  | .hbm, ⟨66, _⟩ => ⟨S606208x128, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v37 : Ref sig .tc := ⟨.hbm, 65, rfl⟩
abbrev main_v38 : Ref sig .tc := ⟨.hbm, 66, rfl⟩

abbrev nD : Nat := 1
abbrev τ : Topo := Topo.v7x

variable {F : FTy → Type} [FloatOps F]
-- ==== Proof.Rows.lean ====
/- One query row of one head, as functions of that row: what the kernel computes of it and what the reference does. -/
module

public import Idealize.ShloMosaic.Lib.Pointwise

@[expose] public section

noncomputable section

open Idealize.ShloMosaic

namespace Attn

/-- The mixing weight: the exponential of one pair's inner product less that of the other's, plus a constant. -/
def lam (l : Fin 4 → Fin 64 → EReal) : EReal :=
  Ideal.exp (∑ d, l 0 d * l 1 d) - Ideal.exp (∑ d, l 2 d * l 3 d) + Ideal.ofBits .f32 0x3E4CCCCD#32

/-- The root-mean-square norm of a row of 128, times the gain and the constant factor, at entry `e`. -/
def normed (o g : Fin 128 → EReal) (e : Fin 128) : EReal :=
  o e * Ideal.rsqrt (Ideal.div (∑ i, o i * o i) (Ideal.ofBits .f32 0x43000000#32) + Ideal.ofBits .f32 0x358637BD#32) * g e
    * Ideal.ofBits .f32 0x3F4CCCCD#32

/-- The kernel's score: the inner product over the 128 lanes of the head with the other half of the lanes zeroed. -/
def lanes (c : CmpIPredicate) (q k : Fin 128 → EReal) : EReal :=
  ∑ d : Fin 128, Scalar.select (IntOp.cmpi c (BitVec.ofNat 32 d) 64#32) (q d * k d) 0

/-- The greatest of a row's scores, from minus infinity. -/
def top (s : Fin 2304 → EReal) : EReal := Finset.univ.fold max (Ideal.ofBits .f32 0xFF800000#32) s

/-- The kernel's unnormalised weight of key `j`: a power of two. -/
def pow (s : Fin 2304 → EReal) (j : Fin 2304) : EReal := FloatOps.exp2 (F := Ideal) (φ := .f32) (s j - top s)

/-- The kernel's softmax average of one column of the values: weighted sum over sum of weights. -/
def avg (s v : Fin 2304 → EReal) : EReal := Ideal.div (∑ j, pow s j * v j) (∑ j, pow s j)

/-- One entry of the kernel's row before the norm. -/
def kernelOut (q : Fin 128 → EReal) (k : Fin 2304 → Fin 128 → EReal) (v : Fin 2304 → EReal) (w : EReal) : EReal :=
  avg (fun j => lanes .slt q (k j)) v - w * avg (fun j => lanes .sge q (k j)) v

/-- The reference's score: the inner product over one half of the lanes, scaled. -/
def score (o : Fin 2) (q k : Fin 128 → EReal) : EReal :=
  (∑ d : Fin 64, q ⟨64 * o + d, by omega⟩ * k ⟨64 * o + d, by omega⟩) * Ideal.ofBits .f32 0x3E000000#32

/-- The reference's unnormalised weight of key `j`. -/
def expo (s : Fin 2304 → EReal) (j : Fin 2304) : EReal := Ideal.exp (s j - max (Ideal.ofBits .f32 0xFF800000#32) (top s))

/-- The reference's softmax at key `j`. -/
def prob (s : Fin 2304 → EReal) (j : Fin 2304) : EReal := Ideal.div (expo s j) (∑ i, expo s i)

/-- One entry of the reference's row before the norm. -/
def refOut (q : Fin 128 → EReal) (k : Fin 2304 → Fin 128 → EReal) (v : Fin 2304 → EReal) (w : EReal) : EReal :=
  ∑ j, v j * (prob (fun j => score 0 q (k j)) j - w * prob (fun j => score 1 q (k j)) j)

end Attn

end
-- ==== Proof.Tile.lean ====
/- One tile of one head of the attention call: 256 queries against all keys. -/
module

public import proofs.«01_k».proof.Proof.Gen.KernelIdeal
public import proofs.«01_k».proof.Proof.Gen.KernelIdeal.Skeleton
public import proofs.«01_k».proof.Proof.Gen.KernelIdeal.Frame
public import proofs.«01_k».proof.Proof.Rows

@[expose] public section

set_option maxRecDepth 16384

noncomputable section

open Idealize.ShloMosaic Idealize.ShloMosaic.TcCoe Idealize.SL.Sem

namespace Cert.KernelIdeal.Tile

open Cert.KernelIdeal Cert.KernelIdeal.Gen

/-- What the body stores for one head of one tile of queries, from that tile's queries, the head's keys and values,
    the four mixing vectors and the norm's gain: the first of the sixteen stores, with its loads as variables. -/
def tile (q : Vec Ideal S256x128 .bf16) (k v : Vec Ideal S1x2304x128 .bf16) (l : Vec Ideal S4x64 .f32) (g : Vec Ideal S1x128 .f32) :
    FVec Ideal S256x128 .bf16 :=
  k0_pay8 (F := Ideal) (k0_pay2 l) (iota .tc S1x128 32 [1] iota_S1x128_d1_w32) (k0_pay4 q) (k0_pay5 k) (k0_pay6 v) (k0_pay7 q k v) g

/-- The tile's stored entry is the kernel's row function of the tile's query row, normed. -/
theorem tile_at (q : Vec Ideal S256x128 .bf16) (k v : Vec Ideal S1x2304x128 .bf16) (l : Vec Ideal S4x64 .f32) (g : Vec Ideal S1x128 .f32)
    (r : Fin 256) (e : Fin 128) :
    tile q k v l g (ix2 r e) = Attn.normed
      (fun e => Attn.kernelOut (fun d => q (ix2 r d)) (fun j d => k (ix3 0 j d)) (fun j => v (ix3 0 j e)) (Attn.lam fun a d => l (ix2 a d)))
      (fun e => g (ix2 0 e)) e := by
  pointwise [tile, k0_pay8, k0_pay2, k0_pay4, k0_pay5, k0_pay6, k0_pay7, k0_pay3]
  rfl

end Cert.KernelIdeal.Tile

end
-- ==== Proof.Block.lean ====
/- What one grid point of the attention kernel leaves in its output block, read at one entry. -/
module

public import proofs.«01_k».proof.Proof.Gen.KernelIdeal.Value
public import proofs.«01_k».proof.Proof.Rows
public import proofs.«01_k».proof.Proof.Tile
public import Idealize.ShloMosaic.Lib.Pipeline.ValueKit

@[expose] public section

set_option maxRecDepth 16384

noncomputable section

namespace Cert.KernelIdeal.Tile

open Idealize.ShloMosaic Idealize.SL.Sem Cert.KernelIdeal Cert.KernelIdeal.Gen

/-- Entry `e` of head `h` of the block's query row `r`, from the five input blocks: that row's own lanes
against every key row and value row of the segment. -/
def cell (x0 : Vec Ideal S1024x512 .bf16) (x1 x2 : Vec Ideal S1x2304x512 .bf16) (x3 : Vec Ideal S4x64 .f32)
    (x4 : Vec Ideal S1x128 .f32) (r : Fin 1024) (h : Fin 4) (e : Fin 128) : EReal :=
  Attn.normed (fun e : Fin 128 => Attn.kernelOut
      (fun d : Fin 128 => x0 (ix2 r (⟨h.val * 128 + d.val, by omega⟩ : Fin 512)))
      (fun (j : Fin 2304) (d : Fin 128) => x1 (ix3 0 j (⟨h.val * 128 + d.val, by omega⟩ : Fin 512)))
      (fun j : Fin 2304 => x2 (ix3 0 j (⟨h.val * 128 + e.val, by omega⟩ : Fin 512)))
      (Attn.lam fun a d => x3 (ix2 a d)))
    (fun e : Fin 128 => x4 (ix2 0 e)) e

/-- A tile computed from loads that are one head's columns of the blocks is that head's entries. -/
theorem tile_cell (x0 : Vec Ideal S1024x512 .bf16) (x1 x2 : Vec Ideal S1x2304x512 .bf16) (x3 : Vec Ideal S4x64 .f32)
    (x4 : Vec Ideal S1x128 .f32) (q : Vec Ideal S256x128 .bf16) (k v : Vec Ideal S1x2304x128 .bf16)
    (l : Vec Ideal S4x64 .f32) (g : Vec Ideal S1x128 .f32) (r : Fin 1024) (h : Fin 4) (p : Fin 256) (e : Fin 128)
    (hq : ∀ d : Fin 128, q (ix2 p d) = x0 (ix2 r (⟨h.val * 128 + d.val, by omega⟩ : Fin 512)))
    (hk : ∀ (j : Fin 2304) (d : Fin 128), k (ix3 0 j d) = x1 (ix3 0 j (⟨h.val * 128 + d.val, by omega⟩ : Fin 512)))
    (hv : ∀ (j : Fin 2304) (d : Fin 128), v (ix3 0 j d) = x2 (ix3 0 j (⟨h.val * 128 + d.val, by omega⟩ : Fin 512)))
    (hl : ∀ (a : Fin 4) (d : Fin 64), l (ix2 a d) = x3 (ix2 a d))
    (hg : ∀ d : Fin 128, g (ix2 0 d) = x4 (ix2 0 d)) :
    tile q k v l g (ix2 p e) = cell x0 x1 x2 x3 x4 r h e := by
  rw [tile_at]
  unfold cell
  simp only [hq, hk, hv, hl, hg]

/-- Every entry of the output block a grid point leaves. -/
theorem out_at (x0 : Vec Ideal S1024x512 .bf16) (x1 x2 : Vec Ideal S1x2304x512 .bf16) (x3 : Vec Ideal S4x64 .f32)
    (x4 : Vec Ideal S1x128 .f32) (y : S1024x512.Idx) (r : Fin 1024) (h : Fin 4) (e : Fin 128)
    (er : (y 0).val = r.val) (ec : (y 1).val = h.val * 128 + e.val) :
    out0_5 x0 x1 x2 x3 x4 y = cell x0 x1 x2 x3 x4 r h e := by
  unfold_out out0_5
  canon_tiles x u
  case' piece0 => refine (show _ = tile (View.ld x0 r0_21) (View.ld x1 r0_9) (View.ld x2 r0_9) (View.ld x3 r0_0) (View.ld x4 r0_3) x from rfl).trans ?_
  case' piece1 => refine (show _ = tile (View.ld x0 r0_20) (View.ld x1 r0_7) (View.ld x2 r0_7) (View.ld x3 r0_0) (View.ld x4 r0_3) x from rfl).trans ?_
  case' piece2 => refine (show _ = tile (View.ld x0 r0_19) (View.ld x1 r0_5) (View.ld x2 r0_5) (View.ld x3 r0_0) (View.ld x4 r0_3) x from rfl).trans ?_
  case' piece3 => refine (show _ = tile (View.ld x0 r0_18) (View.ld x1 r0_2) (View.ld x2 r0_2) (View.ld x3 r0_0) (View.ld x4 r0_3) x from rfl).trans ?_
  case' piece4 => refine (show _ = tile (View.ld x0 r0_17) (View.ld x1 r0_9) (View.ld x2 r0_9) (View.ld x3 r0_0) (View.ld x4 r0_3) x from rfl).trans ?_
  case' piece5 => refine (show _ = tile (View.ld x0 r0_16) (View.ld x1 r0_7) (View.ld x2 r0_7) (View.ld x3 r0_0) (View.ld x4 r0_3) x from rfl).trans ?_
  case' piece6 => refine (show _ = tile (View.ld x0 r0_15) (View.ld x1 r0_5) (View.ld x2 r0_5) (View.ld x3 r0_0) (View.ld x4 r0_3) x from rfl).trans ?_
  case' piece7 => refine (show _ = tile (View.ld x0 r0_14) (View.ld x1 r0_2) (View.ld x2 r0_2) (View.ld x3 r0_0) (View.ld x4 r0_3) x from rfl).trans ?_
  case' piece8 => refine (show _ = tile (View.ld x0 r0_13) (View.ld x1 r0_9) (View.ld x2 r0_9) (View.ld x3 r0_0) (View.ld x4 r0_3) x from rfl).trans ?_
  case' piece9 => refine (show _ = tile (View.ld x0 r0_12) (View.ld x1 r0_7) (View.ld x2 r0_7) (View.ld x3 r0_0) (View.ld x4 r0_3) x from rfl).trans ?_
  case' piece10 => refine (show _ = tile (View.ld x0 r0_11) (View.ld x1 r0_5) (View.ld x2 r0_5) (View.ld x3 r0_0) (View.ld x4 r0_3) x from rfl).trans ?_
  case' piece11 => refine (show _ = tile (View.ld x0 r0_10) (View.ld x1 r0_2) (View.ld x2 r0_2) (View.ld x3 r0_0) (View.ld x4 r0_3) x from rfl).trans ?_
  case' piece12 => refine (show _ = tile (View.ld x0 r0_8) (View.ld x1 r0_9) (View.ld x2 r0_9) (View.ld x3 r0_0) (View.ld x4 r0_3) x from rfl).trans ?_
  case' piece13 => refine (show _ = tile (View.ld x0 r0_6) (View.ld x1 r0_7) (View.ld x2 r0_7) (View.ld x3 r0_0) (View.ld x4 r0_3) x from rfl).trans ?_
  case' piece14 => refine (show _ = tile (View.ld x0 r0_4) (View.ld x1 r0_5) (View.ld x2 r0_5) (View.ld x3 r0_0) (View.ld x4 r0_3) x from rfl).trans ?_
  case' piece15 => refine (show _ = tile (View.ld x0 r0_1) (View.ld x1 r0_2) (View.ld x2 r0_2) (View.ld x3 r0_0) (View.ld x4 r0_3) x from rfl).trans ?_
  all_goals
    obtain rfl : e = x 1 := Fin.ext (by have := e.isLt; have : ((x 1 : Fin _) : ℕ) < 128 := x1_lt; omega)
    idx_vars x
    refine tile_cell _ _ _ _ _ _ _ _ _ _ r h _ _ ?_ ?_ ?_ ?_ ?_
    all_goals intros
    all_goals (pointwise; blk_ext)

end Cert.KernelIdeal.Tile

end
-- ==== Proof.Softmax.lean ====
/- The kernel's row and the reference's are equal after the norm, whatever the queries and keys, when the values and
   the mixing weight are real. -/
module

public import proofs.«01_k».proof.Proof.Rows

@[expose] public section

noncomputable section

open Idealize.ShloMosaic

namespace Attn

/-! ## Extended reals -/

theorem sum_mul_real {n : Nat} (f : Fin n → EReal) (c : ℝ) (hc : 0 ≤ c) : ∑ i, f i * (c : EReal) = (∑ i, f i) * (c : EReal) := by
  have key : ∀ s : Finset (Fin n), ∑ i ∈ s, f i * (c : EReal) = (∑ i ∈ s, f i) * (c : EReal) := by
    intro s
    induction s using Finset.induction_on with
    | empty => simp
    | insert a s ha ih =>
      rw [Finset.sum_insert ha, Finset.sum_insert ha, ih,
        EReal.right_distrib_of_nonneg_of_ne_top (EReal.coe_nonneg.mpr hc) (EReal.coe_ne_top c)]
  exact key _

theorem coe_sum_real {n : Nat} (f : Fin n → ℝ) : ∑ i, (f i : EReal) = ((∑ i, f i : ℝ) : EReal) := by
  have key : ∀ s : Finset (Fin n), ∑ i ∈ s, (f i : EReal) = ((∑ i ∈ s, f i : ℝ) : EReal) := by
    intro s
    induction s using Finset.induction_on with
    | empty => simp
    | insert a s ha ih => rw [Finset.sum_insert ha, Finset.sum_insert ha, ih, EReal.coe_add]
  exact key _

theorem neg_inf : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee, -EReal.coe_mul]; norm_num

theorem width : Ideal.ofBits .f32 0x43000000#32 = ((128 : ℝ) : EReal) := by
  simp [Ideal.ofBits, Ideal.ieee, -EReal.coe_mul]; norm_num

theorem small_real : ∃ r : ℝ, Ideal.ofBits .f32 0x358637BD#32 = (r : EReal) := by
  refine ⟨8796093 / 8796093022208, ?_⟩
  simp [Ideal.ofBits, Ideal.ieee, -EReal.coe_mul]; norm_num

theorem fifth_real : ∃ r : ℝ, Ideal.ofBits .f32 0x3E4CCCCD#32 = (r : EReal) := by
  refine ⟨13421773 / 67108864, ?_⟩
  simp [Ideal.ofBits, Ideal.ieee, -EReal.coe_mul]; norm_num

/-- A power of two of a base-two logarithm's multiple is the exponential. -/
theorem exp2_mul (x : EReal) : Ideal.exp2 (x * ((1 / Real.log 2 : ℝ) : EReal)) = Ideal.exp x := by
  have hl : 0 < Real.log 2 := Real.log_pos (by norm_num)
  induction x with
  | bot => rw [EReal.bot_mul_coe_of_pos (by positivity)]; rfl
  | top => rw [EReal.top_mul_coe_of_pos (by positivity)]; rfl
  | coe r =>
    rw [← EReal.coe_mul, Ideal.exp2_coe, Ideal.exp_coe]
    congr 1
    show (2 : ℝ) ^ (r * (1 / Real.log 2)) = Real.exp r
    rw [Real.rpow_def_of_pos (by norm_num)]
    congr 1
    field_simp

theorem sub_mul_real (x y : EReal) (c : ℝ) (hc : 0 ≤ c) : x * (c : EReal) - y * (c : EReal) = (x - y) * (c : EReal) := by
  rw [sub_eq_add_neg, sub_eq_add_neg, EReal.right_distrib_of_nonneg_of_ne_top (EReal.coe_nonneg.mpr hc) (EReal.coe_ne_top c), EReal.neg_mul]

/-! ## The weights -/

/-- The greatest of scaled scores is the greatest score, scaled. -/
theorem top_mul (s : Fin 2304 → EReal) (c : ℝ) (hc : 0 < c) : top (fun j => s j * (c : EReal)) = top s * (c : EReal) := by
  have hm : Monotone fun x : EReal => x * (c : EReal) := fun x y h => mul_le_mul_of_nonneg_right h (EReal.coe_nonneg.mpr hc.le)
  have h := Finset.fold_hom (s := (Finset.univ : Finset (Fin 2304))) (op := max) (op' := max) (f := s) (b := (⊥ : EReal))
    (m := fun x : EReal => x * (c : EReal)) (fun x y => hm.map_max)
  rw [top, top, neg_inf, ← h, EReal.bot_mul_coe_of_pos hc]

theorem le_peak (s : Fin 2304 → EReal) (j : Fin 2304) : s j ≤ top s := by
  rw [top]
  exact (Finset.le_fold_max _).mpr (Or.inr ⟨j, Finset.mem_univ j, le_rfl⟩)

/-- The kernel's powers of two of scaled scores are the reference's exponentials. -/
theorem pow_eq (s : Fin 2304 → EReal) (j : Fin 2304) : pow (fun j => s j * ((1 / Real.log 2 : ℝ) : EReal)) j = expo s j := by
  have hl : 0 < 1 / Real.log 2 := one_div_pos.mpr (Real.log_pos (by norm_num))
  rw [pow, expo, top_mul _ _ hl, sub_mul_real _ _ _ hl.le, neg_inf, max_eq_right bot_le]
  exact exp2_mul _

/-- A weight is a nonnegative real, infinite scores included. -/
theorem expo_real (s : Fin 2304 → EReal) : ∃ P : Fin 2304 → ℝ, (∀ j, 0 ≤ P j) ∧ ∀ j, expo s j = (P j : EReal) := by
  have h : ∀ j, ∃ p : ℝ, 0 ≤ p ∧ expo s j = (p : EReal) := by
    intro j
    have hj := le_peak s j
    rw [expo, neg_inf, max_eq_right bot_le]
    generalize top s = M at hj
    generalize s j = x at hj
    induction M with
    | bot => exact ⟨0, le_rfl, by rw [le_bot_iff.mp hj]; rfl⟩
    | top => exact ⟨0, le_rfl, by rw [sub_eq_add_neg, EReal.neg_top, EReal.add_bot]; rfl⟩
    | coe M =>
      induction x with
      | bot => exact ⟨0, le_rfl, by rw [sub_eq_add_neg, EReal.bot_add]; rfl⟩
      | top => exact absurd hj (by simp)
      | coe x => exact ⟨Real.exp (x - M), (Real.exp_pos _).le, by rw [← EReal.coe_sub]; rfl⟩
  choose P hP using h
  exact ⟨P, fun j => (hP j).1, fun j => (hP j).2⟩

/-! ## The scores -/

theorem sel_one (a b : EReal) : Scalar.select 1#1 a b = a := rfl

theorem sel_zero (a b : EReal) : Scalar.select 0#1 a b = b := rfl

theorem lanes_lo (q k : Fin 128 → EReal) (c : ℝ) (hc : 0 ≤ c) :
    lanes .slt (fun d => q d * ((1 / 8 * c : ℝ) : EReal)) k = score 0 q k * (c : EReal) := by
  have h1 : ∀ d : Fin 64, IntOp.cmpi .slt (BitVec.ofNat 32 d) 64#32 = 1#1 := by decide +kernel
  have h2 : ∀ d : Fin 64, IntOp.cmpi .slt (BitVec.ofNat 32 (64 + d)) 64#32 = 0#1 := by decide +kernel
  rw [lanes, Fin.sum_univ_two_halves 64 64 rfl]
  simp only [h1, h2, sel_one, sel_zero, Finset.sum_const_zero, add_zero]
  rw [score, eighth, mul_assoc, ← EReal.coe_mul, ← sum_mul_real _ _ (by positivity)]
  exact Finset.sum_congr rfl fun d _ => by
    rw [mul_right_comm]; simp only [Fin.isValue, Fin.val_zero, Nat.mul_zero, Nat.zero_add]

theorem lanes_hi (q k : Fin 128 → EReal) (c : ℝ) (hc : 0 ≤ c) :
    lanes .sge (fun d => q d * ((1 / 8 * c : ℝ) : EReal)) k = score 1 q k * (c : EReal) := by
  have h1 : ∀ d : Fin 64, IntOp.cmpi .sge (BitVec.ofNat 32 d) 64#32 = 0#1 := by decide +kernel
  have h2 : ∀ d : Fin 64, IntOp.cmpi .sge (BitVec.ofNat 32 (64 + d)) 64#32 = 1#1 := by decide +kernel
  rw [lanes, Fin.sum_univ_two_halves 64 64 rfl]
  simp only [h1, h2, sel_one, sel_zero, Finset.sum_const_zero, zero_add]
  rw [score, eighth, mul_assoc, ← EReal.coe_mul, ← sum_mul_real _ _ (by positivity)]
  exact Finset.sum_congr rfl fun d _ => by
    rw [mul_right_comm]; simp only [Fin.isValue, Fin.val_one, Nat.mul_one]

/-- The mixing weight of real vectors is real. -/
theorem lam_real (l : Fin 4 → Fin 64 → EReal) (h : ∀ a d, ∃ r : ℝ, l a d = (r : EReal)) : ∃ w : ℝ, lam l = (w : EReal) := by
  choose r hr using h
  obtain ⟨f, hf⟩ := fifth_real
  have hs : ∀ a b, ∃ t : ℝ, ∑ d, l a d * l b d = (t : EReal) := fun a b =>
    ⟨∑ d, r a d * r b d, by rw [← coe_sum_real]; exact Finset.sum_congr rfl fun d _ => by rw [hr, hr, EReal.coe_mul]⟩
  obtain ⟨s, hs1⟩ := hs 0 1
  obtain ⟨t, ht1⟩ := hs 2 3
  exact ⟨Real.exp s - Real.exp t + f, by rw [lam, hs1, ht1, hf, Ideal.exp_coe, Ideal.exp_coe, EReal.coe_add, EReal.coe_sub]⟩

/-! ## The averages, by the weights' sum -/

section Weights
variable (P : Fin 2304 → ℝ) (v : Fin 2304 → ℝ)

theorem real_div (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

theorem zero_div_zero : Ideal.div (0 : EReal) 0 = ⊥ := by simp [Ideal.div]

theorem avg_real (h : ∑ j, P j ≠ 0) : Ideal.div (∑ j, (P j : EReal) * (v j : EReal)) (∑ j, (P j : EReal)) = ((∑ j, P j / (∑ i, P i) * v j : ℝ) : EReal) := by
  have : ∑ j, (P j : EReal) * (v j : EReal) = ((∑ j, P j * v j : ℝ) : EReal) := by
    rw [← coe_sum_real]; exact Finset.sum_congr rfl fun j _ => (EReal.coe_mul _ _).symm
  rw [this, coe_sum_real, real_div _ _ h, Finset.sum_div]
  exact congrArg _ (Finset.sum_congr rfl fun j _ => mul_div_right_comm _ _ _)

theorem all_zero (hP : ∀ j, 0 ≤ P j) (h : ∑ j, P j = 0) (j : Fin 2304) : P j = 0 :=
  (Finset.sum_eq_zero_iff_of_nonneg fun j _ => hP j).mp h j (Finset.mem_univ j)

theorem avg_bot (hP : ∀ j, 0 ≤ P j) (h : ∑ j, P j = 0) : Ideal.div (∑ j, (P j : EReal) * (v j : EReal)) (∑ j, (P j : EReal)) = ⊥ := by
  rw [coe_sum_real, h, Finset.sum_eq_zero fun j _ => by rw [all_zero P hP h j, EReal.coe_zero, zero_mul]]
  exact zero_div_zero

theorem prob_bot (hP : ∀ j, 0 ≤ P j) (h : ∑ j, P j = 0) (j : Fin 2304) : Ideal.div (P j : EReal) (∑ j, (P j : EReal)) = ⊥ := by
  rw [coe_sum_real, h, all_zero P hP h j]
  exact zero_div_zero

end Weights

/-- Either the two rows agree before the norm, or the kernel's is one infinity throughout and the reference's is the
    values' sum times that infinity. -/
theorem rows (P R : Fin 2304 → ℝ) (hP : ∀ j, 0 ≤ P j) (hR : ∀ j, 0 ≤ R j) (w : ℝ) :
    (∀ v : Fin 2304 → ℝ,
      Ideal.div (∑ j, (P j : EReal) * (v j : EReal)) (∑ j, (P j : EReal)) - (w : EReal) * Ideal.div (∑ j, (R j : EReal) * (v j : EReal)) (∑ j, (R j : EReal))
        = ∑ j, (v j : EReal) * (Ideal.div (P j : EReal) (∑ i, (P i : EReal)) - (w : EReal) * Ideal.div (R j : EReal) (∑ i, (R i : EReal))))
    ∨ ∃ t : EReal, (t = ⊥ ∨ t = ⊤) ∧ ∀ v : Fin 2304 → ℝ,
      Ideal.div (∑ j, (P j : EReal) * (v j : EReal)) (∑ j, (P j : EReal)) - (w : EReal) * Ideal.div (∑ j, (R j : EReal) * (v j : EReal)) (∑ j, (R j : EReal)) = t
        ∧ ∑ j, (v j : EReal) * (Ideal.div (P j : EReal) (∑ i, (P i : EReal)) - (w : EReal) * Ideal.div (R j : EReal) (∑ i, (R i : EReal)))
          = ∑ j, (v j : EReal) * t := by
  by_cases h1 : ∑ j, P j = 0
  · refine Or.inr ⟨⊥, Or.inl rfl, fun v => ⟨?_, Finset.sum_congr rfl fun j _ => ?_⟩⟩
    · rw [avg_bot P v hP h1, sub_eq_add_neg, EReal.bot_add]
    · rw [prob_bot P hP h1, sub_eq_add_neg, EReal.bot_add]
  · by_cases h2 : ∑ j, R j = 0
    · by_cases hw : w = 0
      · refine Or.inl fun v => ?_
        subst hw
        simp only [EReal.coe_zero, zero_mul, sub_zero]
        rw [avg_real P v h1, ← coe_sum_real]
        exact Finset.sum_congr rfl fun j _ => by rw [coe_sum_real, real_div _ _ h1, ← EReal.coe_mul, mul_comm]
      · refine Or.inr ⟨- ((w : EReal) * ⊥), ?_, fun v => ⟨?_, Finset.sum_congr rfl fun j _ => ?_⟩⟩
        · rcases lt_or_gt_of_ne hw with h | h
          · left; rw [EReal.coe_mul_bot_of_neg h, EReal.neg_top]
          · right; rw [EReal.coe_mul_bot_of_pos h, EReal.neg_bot]
        · rw [avg_bot R v hR h2, avg_real P v h1, sub_eq_add_neg]
          rcases lt_or_gt_of_ne hw with h | h
          · rw [EReal.coe_mul_bot_of_neg h, EReal.neg_top, EReal.add_bot]
          · rw [EReal.coe_mul_bot_of_pos h, EReal.neg_bot, EReal.coe_add_top]
        · rw [prob_bot R hR h2, coe_sum_real, real_div _ _ h1, sub_eq_add_neg]
          rcases lt_or_gt_of_ne hw with h | h
          · rw [EReal.coe_mul_bot_of_neg h, EReal.neg_top, EReal.add_bot]
          · rw [EReal.coe_mul_bot_of_pos h, EReal.neg_bot, EReal.coe_add_top]
    · refine Or.inl fun v => ?_
      rw [avg_real P v h1, avg_real R v h2, ← EReal.coe_mul, ← EReal.coe_sub, Finset.mul_sum, ← Finset.sum_sub_distrib, ← coe_sum_real]
      refine Finset.sum_congr rfl fun j _ => ?_
      rw [coe_sum_real, coe_sum_real, real_div _ _ h1, real_div _ _ h2, ← EReal.coe_mul, ← EReal.coe_sub, ← EReal.coe_mul]
      congr 1
      ring

/-! ## The norm of a row of zeros and infinities is zero -/

theorem normed_zero (o g : Fin 128 → EReal) (h : ∀ e, o e = 0 ∨ o e = ⊥ ∨ o e = ⊤) (e : Fin 128) : normed o g e = 0 := by
  rw [normed]
  by_cases he : o e = 0
  · rw [he, zero_mul, zero_mul, zero_mul]
  · have hsq : o e * o e = ⊤ := by
      rcases h e with h | h | h
      · exact absurd h he
      · rw [h]; rfl
      · rw [h]; rfl
    have hs : ∑ i, o i * o i = ⊤ := by
      have hle : o e * o e ≤ ∑ i, o i * o i := Finset.single_le_sum (f := fun i => o i * o i) (fun i _ => by
        rcases h i with h | h | h <;> rw [h]
        · simp
        · exact le_top
        · exact le_top) (Finset.mem_univ e)
      rw [hsq] at hle
      exact top_le_iff.mp hle
    obtain ⟨r, hr⟩ := small_real
    rw [hs, width, hr]
    have hd : Ideal.div ⊤ ((128 : ℝ) : EReal) = ⊤ := by
      rw [Ideal.div, if_neg (by norm_num), ← EReal.coe_inv, EReal.top_mul_coe_of_pos (by norm_num)]
    rw [hd, EReal.top_add_coe, Ideal.rsqrt_top, mul_zero, zero_mul, zero_mul]

/-- A sum of reals' multiples of one infinity is zero or infinite. -/
theorem sum_inf (t : EReal) (ht : t = ⊥ ∨ t = ⊤) (v : Fin 2304 → ℝ) :
    (∑ j, (v j : EReal) * t) = 0 ∨ (∑ j, (v j : EReal) * t) = ⊥ ∨ (∑ j, (v j : EReal) * t) = ⊤ := by
  have key : ∀ s : Finset (Fin 2304), (∑ j ∈ s, (v j : EReal) * t) = 0 ∨ (∑ j ∈ s, (v j : EReal) * t) = ⊥ ∨ (∑ j ∈ s, (v j : EReal) * t) = ⊤ := by
    intro s
    induction s using Finset.induction_on with
    | empty => simp
    | insert a s ha ih =>
      rw [Finset.sum_insert ha]
      have hv : (v a : EReal) * t = 0 ∨ (v a : EReal) * t = ⊥ ∨ (v a : EReal) * t = ⊤ := by
        rcases lt_trichotomy (v a) 0 with h | h | h <;> rcases ht with rfl | rfl
        · rw [EReal.coe_mul_bot_of_neg h]; simp
        · rw [EReal.coe_mul_top_of_neg h]; simp
        · rw [h, EReal.coe_zero, zero_mul]; simp
        · rw [h, EReal.coe_zero, zero_mul]; simp
        · rw [EReal.coe_mul_bot_of_pos h]; simp
        · rw [EReal.coe_mul_top_of_pos h]; simp
      rcases hv with h | h | h <;> rcases ih with h' | h' | h' <;> rw [h, h'] <;> simp
  exact key _

/-! ## The equation -/

/-- The kernel's normed row is the reference's, the kernel's queries being the reference's times the folded scale. -/
theorem normed_eq (q : Fin 128 → EReal) (k v : Fin 2304 → Fin 128 → EReal) (w : EReal) (g : Fin 128 → EReal)
    (hv : ∀ j e, ∃ r : ℝ, v j e = (r : EReal)) (hw : ∃ r : ℝ, w = (r : EReal)) (e : Fin 128) :
    normed (fun e => kernelOut (fun d => q d * ((1 / 8 * (1 / Real.log 2) : ℝ) : EReal)) k (fun j => v j e) w) g e
      = normed (fun e => refOut q k (fun j => v j e) w) g e := by
  have hl : 0 < 1 / Real.log 2 := one_div_pos.mpr (Real.log_pos (by norm_num))
  choose r hr using hv
  obtain ⟨w, rfl⟩ := hw
  obtain ⟨P, hP, hP'⟩ := expo_real fun j => score 0 q (k j)
  obtain ⟨R, hR, hR'⟩ := expo_real fun j => score 1 q (k j)
  have hk : ∀ e, kernelOut (fun d => q d * ((1 / 8 * (1 / Real.log 2) : ℝ) : EReal)) k (fun j => v j e) (w : EReal)
      = Ideal.div (∑ j, (P j : EReal) * (r j e : EReal)) (∑ j, (P j : EReal)) - (w : EReal) * Ideal.div (∑ j, (R j : EReal) * (r j e : EReal)) (∑ j, (R j : EReal)) := by
    intro e
    simp only [kernelOut, avg, lanes_lo _ _ _ hl.le, lanes_hi _ _ _ hl.le, pow_eq, hP', hR', hr]
  have hf : ∀ e, refOut q k (fun j => v j e) (w : EReal)
      = ∑ j, (r j e : EReal) * (Ideal.div (P j : EReal) (∑ i, (P i : EReal)) - (w : EReal) * Ideal.div (R j : EReal) (∑ i, (R i : EReal))) := by
    intro e
    simp only [refOut, prob, hP', hR', hr]
  rcases rows P R hP hR w with h | ⟨t, ht, h⟩
  · congr 1
    funext e
    rw [hk, hf, h]
  · rw [normed_zero _ _ fun e => ?_, normed_zero _ _ fun e => ?_]
    · rw [hf, (h fun j => r j e).2]; exact sum_inf t ht _
    · rw [hk, (h fun j => r j e).1]; exact Or.inr ht

end Attn

end
-- ==== Proof.Array.lean ====
/- The attention kernel's result array after the run, entry by entry, from the arrays it was launched with. -/
module

public import proofs.«01_k».proof.Proof.Block
public import proofs.«01_k».proof.Proof.Softmax

@[expose] public section

set_option maxRecDepth 16384

noncomputable section

namespace Cert.KernelIdeal.Array

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- Where each window sits at a grid point: the queries' window by its first row, the others by their block. -/
theorem idx : ∀ t : Fin cfg0.N,
    win0_0.index t = ![t.val / 2 * 2304 + 256 + 1024 * (t.val % 2), 0] ∧ win0_1.index t = ![t.val / 2, 0, 0]
    ∧ win0_2.index t = ![t.val / 2, 0, 0] ∧ win0_3.index t = ![0, 0] ∧ win0_4.index t = ![0, 0]
    ∧ win0_5.index t = ![t.val, 0] :=
  (by decide +kernel : ∀ t : Fin grid0.N, _)

/-- One entry of the queries, times the attention's scale in base two. -/
def scaled (Q : FVec Ideal S36864x512 .f32) (i : S36864x512.Idx) : EReal :=
  Q i * ((1 / 8 * (1 / Real.log 2) : ℝ) : EReal)

theorem two : Ideal.ofBits .f32 0x40000000#32 = ((2 : ℝ) : EReal) := by
  simp [Ideal.ofBits, Ideal.ieee, -EReal.coe_mul]; norm_num

/-- The scale the host code computes. -/
theorem factor (j : S_.Idx) : Host.divf (F := Ideal) (constant S_ .f32 0x3E000000#32) (Host.log (constant S_ .f32 0x40000000#32)) j
    = ((1 / 8 * (1 / Real.log 2) : ℝ) : EReal) := by
  pointwise
  rw [Attn.eighth, two, Ideal.log_coe, if_neg (by norm_num), Ideal.div,
    if_neg (by norm_cast; exact (Real.log_pos one_lt_two).ne'),
    ← EReal.coe_inv, ← EReal.coe_mul, one_div (Real.log 2)]

/-- The queries as the kernel is handed them. -/
theorem V_q (c : Dev nD) (i : S36864x512.Idx) : V m c main_v4 i = scaled (m ((c : Thread nD τ).loc main_arg0)) i := by
  entry_read
  unfold scaled
  rw [← factor (fun a => a.elim0)]
  pointwise

/-- The keys as the kernel is handed them. -/
theorem V_k (c : Dev nD) (b : Fin 16) (j : Fin 2304) (d : Fin 512) (r : Fin 36864) (hr : r.val = b.val * 2304 + j.val) :
    V m c main_v9 (ix3 b j d) = m ((c : Thread nD τ).loc main_arg1) (ix2 r d) := by
  entry_read
  pointwise
  blk_ext

/-- The values as the kernel is handed them. -/
theorem V_v (c : Dev nD) (b : Fin 16) (j : Fin 2304) (d : Fin 512) (r : Fin 36864) (hr : r.val = b.val * 2304 + j.val) :
    V m c main_v10 (ix3 b j d) = m ((c : Thread nD τ).loc main_arg2) (ix2 r d) := by
  entry_read
  pointwise
  blk_ext

/-- The norm's weight as the kernel is handed it. -/
theorem V_g (c : Dev nD) (d : Fin 128) : V m c main_v7 (ix2 0 d) = m ((c : Thread nD τ).loc main_arg4) (ix1 d) := by
  entry_read
  pointwise

/-- The queries' block: rows of the scaled queries. -/
theorem q_at (c : Dev nD) (t : Fin cfg0.N) (r : Fin 1024) (d : Fin 512) (r' : Fin 36864)
    (hr : r'.val = t.val / 2 * 2304 + 256 + 1024 * (t.val % 2) + r.val) :
    iblk m c 0 t (ix2 r d) = scaled (m ((c : Thread nD τ).loc main_arg0)) (ix2 r' d) := by
  rw [← V_q m c]
  blk_point [iblk]
  · refine (Pipeline.Window.rect_emb_val_off win0_0 t (ix2 r d) 0).trans ?_
    rw [(idx t).1, hr]
    rfl
  · refine (Pipeline.Window.rect_emb_val_off win0_0 t (ix2 r d) 1).trans ?_
    rw [(idx t).1]
    exact Nat.zero_add _

/-- The keys' block: one segment's rows. -/
theorem k_at (c : Dev nD) (t : Fin cfg0.N) (j : Fin 2304) (d : Fin 512) (r : Fin 36864)
    (hr : r.val = t.val / 2 * 2304 + j.val) :
    iblk m c 1 t (ix3 0 j d) = m ((c : Thread nD τ).loc main_arg1) (ix2 r d) := by
  have ht : t.val < 32 := lt_of_lt_of_eq t.isLt N_0
  rw [← V_k m c ⟨t.val / 2, by omega⟩ j d r hr]
  blk_point [iblk, idx t]

/-- The values' block: one segment's rows. -/
theorem v_at (c : Dev nD) (t : Fin cfg0.N) (j : Fin 2304) (d : Fin 512) (r : Fin 36864)
    (hr : r.val = t.val / 2 * 2304 + j.val) :
    iblk m c 2 t (ix3 0 j d) = m ((c : Thread nD τ).loc main_arg2) (ix2 r d) := by
  have ht : t.val < 32 := lt_of_lt_of_eq t.isLt N_0
  rw [← V_v m c ⟨t.val / 2, by omega⟩ j d r hr]
  blk_point [iblk, idx t]

/-- The mixing vectors' block is the whole array. -/
theorem l_at (c : Dev nD) (t : Fin cfg0.N) (a : Fin 4) (d : Fin 64) :
    iblk m c 3 t (ix2 a d) = m ((c : Thread nD τ).loc main_arg3) (ix2 a d) := by
  rw [← V_main_arg3 m c]
  blk_point [iblk, idx t]

/-- The norm's weight. -/
theorem g_at (c : Dev nD) (t : Fin cfg0.N) (d : Fin 128) :
    iblk m c 4 t (ix2 0 d) = m ((c : Thread nD τ).loc main_arg4) (ix1 d) := by
  rw [← V_g m c]
  blk_point [iblk, idx t]

/-- One entry of the kernel's result, from the five arrays: row `r` of the result is latent row `r % 2048` of
sequence `r / 2048`, whose first 256 rows are context; column `c` is lane `c % 128` of head `c / 128`. -/
def out (Q K V : FVec Ideal S36864x512 .f32) (L : FVec Ideal S4x64 .f32) (G : FVec Ideal S128 .f32)
    (r : Fin 32768) (c : Fin 512) : EReal :=
  Attn.normed (fun e : Fin 128 => Attn.kernelOut
      (fun d : Fin 128 => Q (ix2 (⟨r.val / 2048 * 2304 + (256 + r.val % 2048), by omega⟩ : Fin 36864)
        (⟨c.val / 128 * 128 + d.val, by omega⟩ : Fin 512)) * ((1 / 8 * (1 / Real.log 2) : ℝ) : EReal))
      (fun (j : Fin 2304) (d : Fin 128) => K (ix2 (⟨r.val / 2048 * 2304 + j.val, by omega⟩ : Fin 36864)
        (⟨c.val / 128 * 128 + d.val, by omega⟩ : Fin 512)))
      (fun j : Fin 2304 => V (ix2 (⟨r.val / 2048 * 2304 + j.val, by omega⟩ : Fin 36864)
        (⟨c.val / 128 * 128 + e.val, by omega⟩ : Fin 512)))
      (Attn.lam fun a d => L (ix2 a d)))
    (fun e : Fin 128 => G (ix1 e)) (⟨c.val % 128, by omega⟩ : Fin 128)

/-- A block entry is the result's entry when the blocks are the arrays' rows. -/
theorem cell_eq (x0 : Vec Ideal S1024x512 .bf16) (x1 x2 : Vec Ideal S1x2304x512 .bf16) (x3 : Vec Ideal S4x64 .f32)
    (x4 : Vec Ideal S1x128 .f32) (Q K V : FVec Ideal S36864x512 .f32) (L : FVec Ideal S4x64 .f32) (G : FVec Ideal S128 .f32)
    (p : Fin 1024) (r : Fin 32768) (d : Fin 512)
    (h0 : ∀ a : Fin 512, x0 (ix2 p a) = scaled Q (ix2 (⟨r.val / 2048 * 2304 + (256 + r.val % 2048), by omega⟩ : Fin 36864) a))
    (h1 : ∀ (j : Fin 2304) (a : Fin 512), x1 (ix3 0 j a) = K (ix2 (⟨r.val / 2048 * 2304 + j.val, by omega⟩ : Fin 36864) a))
    (h2 : ∀ (j : Fin 2304) (a : Fin 512), x2 (ix3 0 j a) = V (ix2 (⟨r.val / 2048 * 2304 + j.val, by omega⟩ : Fin 36864) a))
    (h3 : ∀ (a : Fin 4) (b : Fin 64), x3 (ix2 a b) = L (ix2 a b)) (h4 : ∀ a : Fin 128, x4 (ix2 0 a) = G (ix1 a)) :
    Tile.cell x0 x1 x2 x3 x4 p ⟨d.val / 128, by omega⟩ ⟨d.val % 128, by omega⟩ = out Q K V L G r d := by
  unfold Tile.cell out
  simp only [h0, h1, h2, h3, h4, scaled]

/-- What a grid point stores at one index of its block is the result's entry there. -/
theorem point (c : Dev nD) (t : Fin cfg0.N) (y : S1024x512.Idx) (r : Fin 32768) (d : Fin 512)
    (hr : r.val = t.val * 1024 + (y 0).val) (hd : d.val = (y 1).val) :
    out0_5 (iblk m c 0 t) (iblk m c 1 t) (iblk m c 2 t) (iblk m c 3 t) (iblk m c 4 t) y
      = out (m ((c : Thread nD τ).loc main_arg0)) (m ((c : Thread nD τ).loc main_arg1)) (m ((c : Thread nD τ).loc main_arg2))
          (m ((c : Thread nD τ).loc main_arg3)) (m ((c : Thread nD τ).loc main_arg4)) r d := by
  have ht : t.val < 32 := lt_of_lt_of_eq t.isLt N_0
  have hy : (y 0).val < 1024 := (y 0).isLt
  have e : t.val / 2 = r.val / 2048 := by omega
  refine (Tile.out_at _ _ _ _ _ y ⟨(y 0).val, hy⟩ ⟨d.val / 128, by omega⟩ ⟨d.val % 128, by omega⟩ rfl ?_).trans
    (cell_eq _ _ _ _ _ _ _ _ _ _ _ r d (fun a => q_at m c t _ a _ ?_) (fun j a => k_at m c t j a _ ?_)
      (fun j a => v_at m c t j a _ ?_) (l_at m c t) (g_at m c t))
  · show (y 1).val = d.val / 128 * 128 + d.val % 128
    omega
  · show r.val / 2048 * 2304 + (256 + r.val % 2048) = t.val / 2 * 2304 + 256 + 1024 * (t.val % 2) + (y 0).val
    omega
  · show r.val / 2048 * 2304 + j.val = t.val / 2 * 2304 + j.val
    rw [e]
  · show r.val / 2048 * 2304 + j.val = t.val / 2 * 2304 + j.val
    rw [e]

/-- The result array after the run. -/
theorem final (c : Dev nD) : (dats m 0 c).arrAt 5 cfg0.N
    = fun i => out (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  refine point m c t y _ _ ?_ ?_
  all_goals (blk_simp [idx t] <;> try omega)

end Cert.KernelIdeal.Array

end
-- ==== Proof.RefRead.lean ====
/- What the reference computes, entry by entry. -/
module

public import proofs.«01_k».proof.Proof.Gen.ReferenceIdeal.Run
public import proofs.«01_k».proof.Proof.Rows

@[expose] public section

set_option maxRecDepth 16384

noncomputable section

open Idealize.ShloMosaic Idealize.ShloMosaic.TcCoe Idealize.SL.Sem

namespace Cert.ReferenceIdeal.Read

open Cert.ReferenceIdeal Cert.ReferenceIdeal.Gen

variable (Q K V : FVec Ideal S36864x512 .f32) (L : FVec Ideal S4x64 .f32) (G : FVec Ideal S128 .f32)

/-- The first component's scaled scores, all heads of all batch items. -/
def score0 : FVec Ideal S16x4x2048x2304 .f32 :=
  mulf (Host.dotGeneral dot_S16x2048x4x64_S16x2304x4x64_S16x4x2048x2304_3_3_1_1_02_02 none
    (shapeCast _ (extractStridedSlice S16x2048x4x1x64 ![0, 0, 0, 0, 0] (extractStridedSlice S16x2048x4x2x64 ![0, 256, 0, 0, 0]
      (shapeCast _ Q shapeCasts_S36864x512_S16x2304x4x2x64) slices_S16x2304x4x2x64_S16x2048x4x2x64_0_256_0_0_0)
      slices_S16x2048x4x2x64_S16x2048x4x1x64_0_0_0_0_0) shapeCasts_S16x2048x4x1x64_S16x2048x4x64)
    (shapeCast _ (extractStridedSlice S16x2304x4x1x64 ![0, 0, 0, 0, 0]
      (shapeCast _ K shapeCasts_S36864x512_S16x2304x4x2x64) slices_S16x2304x4x2x64_S16x2304x4x1x64_0_0_0_0_0)
      shapeCasts_S16x2304x4x1x64_S16x2304x4x64))
    (broadcastInDim S16x4x2048x2304 ![] bcast_S_S16x4x2048x2304 (constant S_ .f32 0x3E000000#32))

/-- The second component's. -/
def score1 : FVec Ideal S16x4x2048x2304 .f32 :=
  mulf (Host.dotGeneral dot_S16x2048x4x64_S16x2304x4x64_S16x4x2048x2304_3_3_1_1_02_02 none
    (shapeCast _ (extractStridedSlice S16x2048x4x1x64 ![0, 0, 0, 1, 0] (extractStridedSlice S16x2048x4x2x64 ![0, 256, 0, 0, 0]
      (shapeCast _ Q shapeCasts_S36864x512_S16x2304x4x2x64) slices_S16x2304x4x2x64_S16x2048x4x2x64_0_256_0_0_0)
      slices_S16x2048x4x2x64_S16x2048x4x1x64_0_0_0_1_0) shapeCasts_S16x2048x4x1x64_S16x2048x4x64)
    (shapeCast _ (extractStridedSlice S16x2304x4x1x64 ![0, 0, 0, 1, 0]
      (shapeCast _ K shapeCasts_S36864x512_S16x2304x4x2x64) slices_S16x2304x4x2x64_S16x2304x4x1x64_0_0_0_1_0)
      shapeCasts_S16x2304x4x1x64_S16x2304x4x64))
    (broadcastInDim S16x4x2048x2304 ![] bcast_S_S16x4x2048x2304 (constant S_ .f32 0x3E000000#32))

/-- The greatest score of each query along the keys. -/
def peak (S : FVec Ideal S16x4x2048x2304 .f32) : FVec Ideal S16x4x2048 .f32 :=
  Host.reduce FloatOps.maximumf S (constant S_ .f32 0xFF800000#32) reducesTo_S16x4x2048x2304_S16x4x2048_d3 h_S_

/-- That peak, no less than `z`, for every key. -/
def capped (z : FVec Ideal S_ .f32) (p : FVec Ideal S16x4x2048 .f32) : FVec Ideal S16x4x2048x2304 .f32 :=
  broadcastInDim S16x4x2048x2304 ![0, 1, 2, 3] bcast_S16x4x2048x1_S16x4x2048x2304_0_1_2_3
    (broadcastInDim S16x4x2048x1 ![0, 1, 2] bcast_S16x4x2048_S16x4x2048x1_0_1_2
      (maximumf (broadcastInDim S16x4x2048 ![] bcast_S_S16x4x2048 z) p))

/-- A softmax's numerators along the keys. -/
def expos (S : FVec Ideal S16x4x2048x2304 .f32) : FVec Ideal S16x4x2048x2304 .f32 :=
  Host.exp (subf S (capped (constant S_ .f32 0xFF800000#32) (peak S)))

/-- The softmax along the keys. -/
def soft (S : FVec Ideal S16x4x2048x2304 .f32) : FVec Ideal S16x4x2048x2304 .f32 :=
  Host.divf (expos S) (broadcastInDim S16x4x2048x2304 ![0, 1, 2, 3] bcast_S16x4x2048x1_S16x4x2048x2304_0_1_2_3
    (broadcastInDim S16x4x2048x1 ![0, 1, 2] bcast_S16x4x2048_S16x4x2048x1_0_1_2
      (Host.reduceAdd (expos S) (constant S_ .f32 0x00000000#32) reducesTo_S16x4x2048x2304_S16x4x2048_d3 h_S_)))

/-- The mixing weight. -/
def weight : FVec Ideal S_ .f32 :=
  addf (subf
    (Host.exp (Host.reduceAdd (mulf (shapeCast _ (extractStridedSlice S1x64 ![0, 0] L slices_S4x64_S1x64_0_0) shapeCasts_S1x64_S64)
      (shapeCast _ (extractStridedSlice S1x64 ![1, 0] L slices_S4x64_S1x64_1_0) shapeCasts_S1x64_S64)) (constant S_ .f32 0x00000000#32) reducesTo_S64_S_d0 h_S_))
    (Host.exp (Host.reduceAdd (mulf (shapeCast _ (extractStridedSlice S1x64 ![2, 0] L slices_S4x64_S1x64_2_0) shapeCasts_S1x64_S64)
      (shapeCast _ (extractStridedSlice S1x64 ![3, 0] L slices_S4x64_S1x64_3_0) shapeCasts_S1x64_S64)) (constant S_ .f32 0x00000000#32) reducesTo_S64_S_d0 h_S_)))
    (constant S_ .f32 0x3E4CCCCD#32)

/-- The difference of the two softmaxes, applied to the values. -/
def mixed (S T : FVec Ideal S16x4x2048x2304 .f32) (w : FVec Ideal S_ .f32) : FVec Ideal S16x2048x4x128 .f32 :=
  transpose S16x2048x4x128 [0, 3, 1, 2] (Host.dotGeneral dot_S16x2304x4x128_S16x4x2048x2304_S16x4x128x2048_1_3_3_2_02_01 none
    (shapeCast _ V shapeCasts_S36864x512_S16x2304x4x128)
    (subf (soft S) (mulf (broadcastInDim S16x4x2048x2304 ![] bcast_S_S16x4x2048x2304 w) (soft T))))
    transposes_S16x4x128x2048_S16x2048x4x128_0_3_1_2

/-- The norm over each head's 128 entries, with the gain and the constant factor, laid out by rows. -/
def finish (O : FVec Ideal S16x2048x4x128 .f32) : FVec Ideal S32768x512 .bf16 :=
  truncf .bf16 (shapeCast _ (mulf (mulf (mulf O (broadcastInDim S16x2048x4x128 ![0, 1, 2, 3] bcast_S16x2048x4x1_S16x2048x4x128_0_1_2_3
    (Host.rsqrt (addf (Host.divf (broadcastInDim S16x2048x4x1 ![0, 1, 2] bcast_S16x2048x4_S16x2048x4x1_0_1_2
      (Host.reduceAdd (mulf O O) (constant S_ .f32 0x00000000#32) reducesTo_S16x2048x4x128_S16x2048x4_d3 h_S_))
      (broadcastInDim S16x2048x4x1 ![] bcast_S_S16x2048x4x1 (constant S_ .f32 0x43000000#32)))
      (broadcastInDim S16x2048x4x1 ![] bcast_S_S16x2048x4x1 (constant S_ .f32 0x358637BD#32))))))
    (broadcastInDim S16x2048x4x128 ![0, 1, 2, 3] bcast_S1x1x1x128_S16x2048x4x128_0_1_2_3
      (broadcastInDim S1x1x1x128 ![3] bcast_S128_S1x1x1x128_3 G)))
    (broadcastInDim S16x2048x4x128 ![] bcast_S_S16x2048x4x128 (constant S_ .f32 0x3F4CCCCD#32)))
    shapeCasts_S16x2048x4x128_S32768x512) bitsLt_bf16_f32

/-- The reference's result of its five arguments. -/
def result : FVec Ideal S32768x512 .bf16 := finish G (mixed V (score0 Q K) (score1 Q K) (weight L))

theorem res_eq (m : (ℓ : Loc nD τ sig) → Buf (Elt Ideal) ℓ) (c : Dev nD) :
    Value.res_main_v77 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem score0_at (b : Fin 16) (h : Fin 4) (i : Fin 2048) (j : Fin 2304) : score0 Q K (ix4 b h i j) =
    Attn.score 0 (fun d => Q (ix2 ⟨b * 2304 + (256 + i), by omega⟩ ⟨h * 128 + d, by omega⟩)) (fun d => K (ix2 ⟨b * 2304 + j, by omega⟩ ⟨h * 128 + d, by omega⟩)) := by
  pointwise [score0, Attn.score]

theorem score1_at (b : Fin 16) (h : Fin 4) (i : Fin 2048) (j : Fin 2304) : score1 Q K (ix4 b h i j) =
    Attn.score 1 (fun d => Q (ix2 ⟨b * 2304 + (256 + i), by omega⟩ ⟨h * 128 + d, by omega⟩)) (fun d => K (ix2 ⟨b * 2304 + j, by omega⟩ ⟨h * 128 + d, by omega⟩)) := by
  pointwise [score1, Attn.score]
  simp only [Nat.add_assoc]

theorem peak_at (S : FVec Ideal S16x4x2048x2304 .f32) (b : Fin 16) (h : Fin 4) (i : Fin 2048) :
    peak S (ix3 b h i) = Attn.top (fun j => S (ix4 b h i j)) := by
  pointwise [peak, Attn.top]

theorem capped_at (z : FVec Ideal S_ .f32) (p : FVec Ideal S16x4x2048 .f32) (b : Fin 16) (h : Fin 4) (i : Fin 2048) (j : Fin 2304) :
    capped z p (ix4 b h i j) = max (z ix0) (p (ix3 b h i)) := by
  pointwise [capped]

theorem expos_at (S : FVec Ideal S16x4x2048x2304 .f32) (b : Fin 16) (h : Fin 4) (i : Fin 2048) (j : Fin 2304) :
    expos S (ix4 b h i j) = Attn.expo (fun j => S (ix4 b h i j)) j := by
  have e : expos S (ix4 b h i j) = Ideal.exp (S (ix4 b h i j) - capped (constant S_ .f32 0xFF800000#32) (peak S) (ix4 b h i j)) := by
    pointwise [expos]
  rw [e, capped_at, peak_at, Attn.expo]
  rfl

theorem soft_at (S : FVec Ideal S16x4x2048x2304 .f32) (b : Fin 16) (h : Fin 4) (i : Fin 2048) (j : Fin 2304) :
    soft S (ix4 b h i j) = Attn.prob (fun j => S (ix4 b h i j)) j := by
  pointwise [soft]
  simp only [expos_at]
  rfl

theorem weight_at (x : S_.Idx) : weight L x = Attn.lam fun a d => L (ix2 a d) := by
  pointwise [weight]
  rfl

theorem mixed_at (S T : FVec Ideal S16x4x2048x2304 .f32) (w : FVec Ideal S_ .f32) (b : Fin 16) (i : Fin 2048) (h : Fin 4) (e : Fin 128) :
    mixed V S T w (ix4 b i h e) = ∑ j : Fin 2304, V (ix2 ⟨b * 2304 + j, by omega⟩ ⟨h * 128 + e, by omega⟩) *
      (Attn.prob (fun j => S (ix4 b h i j)) j - w ix0 * Attn.prob (fun j => T (ix4 b h i j)) j) := by
  pointwise [mixed]
  simp only [soft_at]

theorem finish_at (O : FVec Ideal S16x2048x4x128 .f32) (r : Fin 32768) (c : Fin 512) : finish G O (ix2 r c) =
   Attn.normed (fun e => O (ix4 ⟨r / 2048, by omega⟩ ⟨r % 2048, by omega⟩ ⟨c / 128, by omega⟩ e)) (fun e => G (ix1 e)) ⟨c % 128, by omega⟩ := by
  pointwise [finish, Attn.normed]

/-- The reference's entry is its row function of the query row, normed. -/
theorem result_at (r : Fin 32768) (c : Fin 512) : result Q K V L G (ix2 r c) =
    Attn.normed (fun e => Attn.refOut (fun d => Q (ix2 ⟨r / 2048 * 2304 + (256 + r % 2048), by omega⟩ ⟨c / 128 * 128 + d, by omega⟩))
        (fun j d => K (ix2 ⟨r / 2048 * 2304 + j, by omega⟩ ⟨c / 128 * 128 + d, by omega⟩))
        (fun j => V (ix2 ⟨r / 2048 * 2304 + j, by omega⟩ ⟨c / 128 * 128 + e, by omega⟩)) (Attn.lam fun a d => L (ix2 a d)))
      (fun e => G (ix1 e)) ⟨c % 128, by omega⟩ := by
  rw [result, finish_at]
  simp only [mixed_at, score0_at, score1_at, weight_at, Attn.refOut]

end Cert.ReferenceIdeal.Read

end
-- ==== Proof.Finite.lean ====
/- What the precondition says of the arrays: every value entry and every mixing-vector entry is a real number. -/
module

public import proofs.«01_k».proof.Defs
public import Idealize.ShloMosaic.Lib.Pipeline.ValueKit

@[expose] public section

noncomputable section

namespace Cert.Pre_finite.Read

open Idealize.ShloMosaic Cert.Pre_finite

/-- The side conditions the precondition's operations state hold. -/
theorem facts : Cert.Pre_finite.Facts where
  bcast_S_S36864x512 := by decide
  reducesTo_S36864x512_S_d0_1 := by decide
  h_S_ := by decide
  bcast_S_S4x64 := by decide
  reducesTo_S4x64_S_d0_1 := by decide

/-- A conjunction of bits is one only when all its parts are. -/
theorem and_one (a b : BitVec 1) (h : IntOp.andi a b = 1#1) : a = 1#1 ∧ b = 1#1 := by
  revert a b; decide

/-- A running conjunction ends at one only when it starts there and every part is one. -/
theorem fold_one {ι : Type} (g : ι → BitVec 1) : ∀ (l : List ι) (z : BitVec 1),
    l.foldl (fun r n => IntOp.andi r (g n)) z = 1#1 → z = 1#1 ∧ ∀ n ∈ l, g n = 1#1
  | [], z, h => ⟨h, by simp⟩
  | a :: l, z, h => by
    obtain ⟨h1, h2⟩ := fold_one g l _ h
    obtain ⟨h3, h4⟩ := and_one _ _ h1
    exact ⟨h3, List.forall_mem_cons.2 ⟨h4, h2⟩⟩

/-- The conjunction of a whole array is one only when every entry is. -/
theorem all_one {s : Shape} {axes : List (Fin s.rank)} (x : s.Idx → BitVec 1) (z : S_.Idx → BitVec 1)
    (hr : s.ReducesTo axes S_) (hz : 0 < S_.numel) (j : S_.Idx) (h : Host.reduce IntOp.andi x z hr hz j = 1#1) (i : s.Idx) :
    x i = 1#1 := by
  have := (fold_one (fun n => x (s.rowMajor.symm n)) _ _ h).2 (s.rowMajor i)
    (List.mem_filter.2 ⟨List.mem_finRange _, decide_eq_true (funext fun a => a.elim0)⟩)
  simpa using this

/-- An extended real whose magnitude is below infinity is real. -/
theorem real_of (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => exact ⟨r, rfl⟩

/-- The precondition gives real values and real mixing vectors. -/
theorem reals [Facts] (Q K V : FVec Ideal S36864x512 .f32) (L : FVec Ideal S4x64 .f32) (G : FVec Ideal S128 .f32)
    (h : fn Q K V L G = fun _ => 1#1) : (∀ i, ∃ r : ℝ, V i = (r : EReal)) ∧ ∀ i, ∃ r : ℝ, L i = (r : EReal) := by
  obtain ⟨h1, h2⟩ := and_one _ _ (congrFun h (fun a => a.elim0))
  refine ⟨fun i => ?_, fun i => ?_⟩
  · have := all_one _ _ _ _ _ h1 i
    exact real_of _ this
  · have := all_one _ _ _ _ _ h2 i
    exact real_of _ this

end Cert.Pre_finite.Read

end
-- ==== Proof.Equal.lean ====
/- The kernel and the reference leave equal arrays when the values and the mixing vectors are real. -/
module

public import proofs.«01_k».proof.Proof.Array
public import proofs.«01_k».proof.Proof.RefRead
public import proofs.«01_k».proof.Proof.Softmax
public import proofs.«01_k».proof.Proof.Finite
public import Idealize.ShloMosaic.Lib.Claim

@[expose] public section

set_option maxRecDepth 16384

noncomputable section

namespace Cert.Equal

open Idealize.ShloMosaic Idealize.ShloMosaic.TcCoe Idealize.SL.Sem

/-- Entry by entry, the kernel's result is the reference's. -/
theorem out_eq (Q K V : FVec Ideal KernelIdeal.S36864x512 .f32) (L : FVec Ideal KernelIdeal.S4x64 .f32)
    (G : FVec Ideal KernelIdeal.S128 .f32) (hV : ∀ i, ∃ r : ℝ, V i = (r : EReal)) (hL : ∀ i, ∃ r : ℝ, L i = (r : EReal))
    (r : Fin 32768) (c : Fin 512) :
    ReferenceIdeal.Read.result Q K V L G (ix2 r c) = KernelIdeal.Array.out Q K V L G r c := by
  rw [ReferenceIdeal.Read.result_at]
  exact (Attn.normed_eq _ _ (fun j e => V (ix2 _ (⟨c.val / 128 * 128 + e.val, by omega⟩ : Fin 512))) _ _ (fun j e => hV _)
    (Attn.lam_real _ fun a d => hL _) _).symm

/-- The two result arrays are equal. -/
theorem result_eq (Q K V : FVec Ideal KernelIdeal.S36864x512 .f32) (L : FVec Ideal KernelIdeal.S4x64 .f32)
    (G : FVec Ideal KernelIdeal.S128 .f32) (hV : ∀ i, ∃ r : ℝ, V i = (r : EReal)) (hL : ∀ i, ∃ r : ℝ, L i = (r : EReal)) :
    ReferenceIdeal.Read.result Q K V L G = fun i => KernelIdeal.Array.out Q K V L G (i 0) (i 1) :=
  funext fun i => by
    refine Eq.trans (congrArg _ ?_) (out_eq Q K V L G hV hL (i 0) (i 1))
    funext a; match a with
    | 0 => rfl
    | 1 => rfl

/-- From arguments that agree, the kernel and the reference run to equal results. -/
theorem algebraic [Cert.Pre_finite.Facts] : Cert.algebraic_KernelIdeal_ReferenceIdeal_pre_finite := by
  pair_intro
  · run_from Cert.KernelIdeal.Value.run_blocks m g
  · run_from Cert.ReferenceIdeal.Value.run m' g'
    obtain ⟨hV, hL⟩ := Cert.Pre_finite.Read.reals _ _ _ _ _ (hpre c)
    rw [ReferenceIdeal.Read.res_eq, (hagree c).1, (hagree c).2.1, (hagree c).2.2.1, (hagree c).2.2.2.1, (hagree c).2.2.2.2]
    exact (result_eq _ _ _ _ _ hV hL).trans (KernelIdeal.Array.final m c).symm

end Cert.Equal

end
-- ==== Proof.FfnRow.lean ====
/- One token's row of the dense feed-forward: what the kernel and the reference both compute of it. -/
module

public import Idealize.ShloMosaic.Lib.Pointwise

@[expose] public section

noncomputable section

open Idealize.ShloMosaic

namespace Ffn

/-- The gating function: the argument times its logistic. -/
def silu (x : EReal) : EReal :=
  x * Ideal.div (Ideal.ofBits .f32 0x3F800000#32) (Ideal.ofBits .f32 0x3F800000#32 + Ideal.exp (-x))

/-- One hidden unit of a token `h`, from the unit's two weight columns. -/
def unit (h a b : Fin 1024 → EReal) : EReal := silu (∑ k, h k * a k) * ∑ k, h k * b k

/-- One entry of the feed-forward of a token: all 2816 hidden units against one column of the second layer. -/
def out (h : Fin 1024 → EReal) (A B : Fin 1024 → Fin 2816 → EReal) (w : Fin 2816 → EReal) : EReal :=
  ∑ f, unit h (fun k => A k f) (fun k => B k f) * w f

/-- The residual entry: the input plus the gated, normed row. -/
def add (x t : EReal) (y g : Fin 1024 → EReal) (d : Fin 1024) : EReal :=
  x + t * (y d * Ideal.rsqrt (Ideal.div (∑ i, y i * y i) (Ideal.ofBits .f32 0x44800000#32) + Ideal.ofBits .f32 0x358637BD#32) * g d)

/-- The hidden units summed in two stretches. -/
theorem out_split (h : Fin 1024 → EReal) (A B : Fin 1024 → Fin 2816 → EReal) (w : Fin 2816 → EReal) :
    out h A B w =
      (∑ f : Fin 1536, unit h (fun k => A k ⟨f.val, by omega⟩) (fun k => B k ⟨f.val, by omega⟩) * w ⟨f.val, by omega⟩)
      + ∑ f : Fin 1280, unit h (fun k => A k ⟨1536 + f.val, by omega⟩) (fun k => B k ⟨1536 + f.val, by omega⟩) * w ⟨1536 + f.val, by omega⟩ :=
  Fin.sum_univ_add (a := 1536) (b := 1280) fun f : Fin (1536 + 1280) => unit h (fun k => A k f) (fun k => B k f) * w f

end Ffn

end
-- ==== Proof.FfnTile.lean ====
/- What one grid point of the dense feed-forward stores: 256 tokens against all the weights. -/
module

public import proofs.«01_k».proof.Proof.Gen.Kernel2Ideal.Value
public import proofs.«01_k».proof.Proof.FfnRow
public import Idealize.ShloMosaic.Lib.Pipeline.ValueKit

@[expose] public section

set_option maxRecDepth 16384

noncomputable section

namespace Cert.Kernel2Ideal.Tile

open Idealize.ShloMosaic Idealize.ShloMosaic.TcCoe Idealize.SL.Sem Cert.Kernel2Ideal Cert.Kernel2Ideal.Gen

/-- The first stretch of hidden units, entry by entry. -/
theorem first (h : Vec Ideal S256x1024 .bf16) (a b : Vec Ideal S1024x1536 .bf16) (w : Vec Ideal S1536x1024 .bf16)
    (p : Fin 256) (d : Fin 1024) : k0_pay3 (F := Ideal) h a b w (ix2 p d)
      = ∑ f : Fin 1536, Ffn.unit (fun k => h (ix2 p k)) (fun k => a (ix2 k f)) (fun k => b (ix2 k f)) * w (ix2 f d) := by
  pointwise [k0_pay3, k0_pay2, Ffn.unit, Ffn.silu]
  simp only [zero_sub]

/-- The second stretch's hidden units. -/
theorem second (h : Vec Ideal S256x1024 .bf16) (a b : Vec Ideal S1024x1280 .bf16)
    (p : Fin 256) (f : Fin 1280) : k0_pay4 (F := Ideal) h a b (ix2 p f)
      = Ffn.unit (fun k => h (ix2 p k)) (fun k => a (ix2 k f)) (fun k => b (ix2 k f)) := by
  pointwise [k0_pay4, k0_pay2, Ffn.unit, Ffn.silu]
  simp only [zero_sub]

/-- The two stretches added, normed, gated and added to the input. -/
theorem last (y : FVec Ideal S256x1024 .f32) (u : FVec Ideal S256x1280 .f32) (w : Vec Ideal S1280x1024 .bf16)
    (x : Vec Ideal S256x1024 .f32) (t : Vec Ideal S1x1x1x1x1024 .f32) (g : Vec Ideal S1x1024 .f32) (p : Fin 256) (d : Fin 1024) :
    k0_pay1 (F := Ideal) y u w x t g (ix2 p d)
      = Ffn.add (x (ix2 p d)) (t (ix5 0 0 0 0 d)) (fun e => y (ix2 p e) + ∑ f : Fin 1280, u (ix2 p f) * w (ix2 f e))
          (fun e => g (ix2 0 e)) d := by
  pointwise [k0_pay1, Ffn.add]

/-- One entry of the block: the token's row against all the weights. -/
def cell (x0 : Vec Ideal S256x1024 .bf16) (x1 : Vec Ideal S256x1024 .f32) (x2 x3 : Vec Ideal S1024x2816 .bf16)
    (x4 : Vec Ideal S2816x1024 .bf16) (x5 : Vec Ideal S1x1024 .f32) (x6 : Vec Ideal S1x1x1x1x1024 .f32)
    (p : Fin 256) (d : Fin 1024) : EReal :=
  Ffn.add (x1 (ix2 p d)) (x6 (ix5 0 0 0 0 d))
    (fun e => Ffn.out (fun k => x0 (ix2 p k)) (fun k f => x2 (ix2 k f)) (fun k f => x3 (ix2 k f)) (fun f => x4 (ix2 f e)))
    (fun e => x5 (ix2 0 e)) d

/-- Every entry of the output block a grid point leaves. -/
theorem out_at (x0 : Vec Ideal S256x1024 .bf16) (x1 : Vec Ideal S256x1024 .f32) (x2 x3 : Vec Ideal S1024x2816 .bf16)
    (x4 : Vec Ideal S2816x1024 .bf16) (x5 : Vec Ideal S1x1024 .f32) (x6 : Vec Ideal S1x1x1x1x1024 .f32)
    (y : S256x1024.Idx) (p : Fin 256) (d : Fin 1024) (er : (y 0).val = p.val) (ec : (y 1).val = d.val) :
    out0_7 x0 x1 x2 x3 x4 x5 x6 y = cell x0 x1 x2 x3 x4 x5 x6 p d := by
  unfold out0_7
  canon_tiles x u
  obtain rfl : d = x 1 := Fin.ext (by omega)
  obtain rfl : p = x 0 := Fin.ext (by omega)
  idx_vars x
  rw [last]
  unfold cell
  simp only [first, second, Ffn.out_split]
  pointwise

end Cert.Kernel2Ideal.Tile

end
-- ==== Proof.FfnArray.lean ====
/- The dense feed-forward's result array after the run, entry by entry, from the arrays it was launched with. -/
module

public import proofs.«01_k».proof.Proof.FfnTile

@[expose] public section

set_option maxRecDepth 16384

noncomputable section

namespace Cert.Kernel2Ideal.Array

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ)

/-- Where each window sits at a grid point: the tokens' windows by their block of 256 rows, the modulation's by
the row of the block's segment, the weights' at the whole array. -/
theorem idx : ∀ t : Fin cfg0.N,
    win0_0.index t = ![t.val, 0] ∧ win0_1.index t = ![t.val, 0] ∧ win0_2.index t = ![0, 0]
    ∧ win0_3.index t = ![0, 0] ∧ win0_4.index t = ![0, 0] ∧ win0_5.index t = ![0, 0]
    ∧ win0_6.index t = ![0, 5, (if t.val % 9 = 0 then 16 else t.val / 9), 0, 0]
    ∧ win0_7.index t = ![t.val, 0] :=
  (by decide +kernel : ∀ t : Fin grid0.N, _)

/-- The normed tokens as the kernel is handed them. -/
theorem V_h (c : Dev nD) (i : S36864x1024.Idx) : V m c main_v0 i = m ((c : Thread nD τ).loc main_arg0) i := by
  entry_read
  pointwise

/-- The gate projection's weights as the kernel is handed them. -/
theorem V_a (c : Dev nD) (i : S1024x2816.Idx) : V m c main_v1 i = m ((c : Thread nD τ).loc main_arg2) i := by
  entry_read
  pointwise

/-- The up projection's weights as the kernel is handed them. -/
theorem V_b (c : Dev nD) (i : S1024x2816.Idx) : V m c main_v2 i = m ((c : Thread nD τ).loc main_arg3) i := by
  entry_read
  pointwise

/-- The down projection's weights as the kernel is handed them. -/
theorem V_w (c : Dev nD) (i : S2816x1024.Idx) : V m c main_v3 i = m ((c : Thread nD τ).loc main_arg4) i := by
  entry_read
  pointwise

/-- The norm's weight as the kernel is handed it. -/
theorem V_g (c : Dev nD) (d : Fin 1024) : V m c main_v4 (ix2 0 d) = m ((c : Thread nD τ).loc main_arg5) (ix1 d) := by
  entry_read
  pointwise

/-- The modulation table as the kernel is handed it. -/
theorem V_t (c : Dev nD) (l : Fin 4) (k : Fin 6) (s : Fin 24) (d : Fin 1024) :
    V m c main_v5 (ix5 l k s 0 d) = m ((c : Thread nD τ).loc main_arg6) (ix4 l k s d) := by
  entry_read
  pointwise

/-- The normed tokens' block. -/
theorem h_at (c : Dev nD) (t : Fin cfg0.N) (p : Fin 256) (d : Fin 1024) (r : Fin 36864) (hr : r.val = t.val * 256 + p.val) :
    iblk m c 0 t (ix2 p d) = m ((c : Thread nD τ).loc main_arg0) (ix2 r d) := by
  rw [← V_h m c]
  blk_point [iblk, idx t]

/-- The residual stream's block. -/
theorem x_at (c : Dev nD) (t : Fin cfg0.N) (p : Fin 256) (d : Fin 1024) (r : Fin 36864) (hr : r.val = t.val * 256 + p.val) :
    iblk m c 1 t (ix2 p d) = m ((c : Thread nD τ).loc main_arg1) (ix2 r d) := by
  rw [← V_main_arg1 m c]
  blk_point [iblk, idx t]

/-- The gate projection's block is all its weights. -/
theorem a_at (c : Dev nD) (t : Fin cfg0.N) (k : Fin 1024) (f : Fin 2816) :
    iblk m c 2 t (ix2 k f) = m ((c : Thread nD τ).loc main_arg2) (ix2 k f) := by
  rw [← V_a m c]
  blk_point [iblk, idx t]

/-- The up projection's block is all its weights. -/
theorem b_at (c : Dev nD) (t : Fin cfg0.N) (k : Fin 1024) (f : Fin 2816) :
    iblk m c 3 t (ix2 k f) = m ((c : Thread nD τ).loc main_arg3) (ix2 k f) := by
  rw [← V_b m c]
  blk_point [iblk, idx t]

/-- The down projection's block is all its weights. -/
theorem w_at (c : Dev nD) (t : Fin cfg0.N) (f : Fin 2816) (d : Fin 1024) :
    iblk m c 4 t (ix2 f d) = m ((c : Thread nD τ).loc main_arg4) (ix2 f d) := by
  rw [← V_w m c]
  blk_point [iblk, idx t]

/-- The norm's weight. -/
theorem g_at (c : Dev nD) (t : Fin cfg0.N) (d : Fin 1024) :
    iblk m c 5 t (ix2 0 d) = m ((c : Thread nD τ).loc main_arg5) (ix1 d) := by
  rw [← V_g m c]
  blk_point [iblk, idx t]

/-- The modulation's block: the gate row of the segment, or the shared one for context rows. -/
theorem t_at (c : Dev nD) (t : Fin cfg0.N) (d : Fin 1024) (s : Fin 24) (hs : s.val = if t.val % 9 = 0 then 16 else t.val / 9) :
    iblk m c 6 t (ix5 0 0 0 0 d) = m ((c : Thread nD τ).loc main_arg6) (ix4 0 5 s d) := by
  rw [← V_t m c]
  blk_point [iblk, idx t]

/-- The modulation row of a token. -/
def gateRow (r : Fin 36864) : Fin 24 := ⟨if r.val % 2304 < 256 then 16 else r.val / 2304, by split <;> omega⟩

/-- One entry of the kernel's result, from the seven arrays. -/
def out (H X : FVec Ideal S36864x1024 .f32) (A B : FVec Ideal S1024x2816 .f32) (W : FVec Ideal S2816x1024 .f32)
    (G : FVec Ideal S1024 .f32) (M : FVec Ideal S4x6x24x1024 .f32) (r : Fin 36864) (d : Fin 1024) : EReal :=
  Ffn.add (X (ix2 r d)) (M (ix4 0 5 (gateRow r) d))
    (fun e => Ffn.out (fun k => H (ix2 r k)) (fun k f => A (ix2 k f)) (fun k f => B (ix2 k f)) (fun f => W (ix2 f e)))
    (fun e => G (ix1 e)) d

/-- A block entry is the result's entry when the blocks are the arrays' rows. -/
theorem cell_eq (x0 : Vec Ideal S256x1024 .bf16) (x1 : Vec Ideal S256x1024 .f32) (x2 x3 : Vec Ideal S1024x2816 .bf16)
    (x4 : Vec Ideal S2816x1024 .bf16) (x5 : Vec Ideal S1x1024 .f32) (x6 : Vec Ideal S1x1x1x1x1024 .f32)
    (H X : FVec Ideal S36864x1024 .f32) (A B : FVec Ideal S1024x2816 .f32) (W : FVec Ideal S2816x1024 .f32)
    (G : FVec Ideal S1024 .f32) (M : FVec Ideal S4x6x24x1024 .f32) (p : Fin 256) (r : Fin 36864) (d : Fin 1024)
    (h0 : ∀ k : Fin 1024, x0 (ix2 p k) = H (ix2 r k)) (h1 : ∀ k : Fin 1024, x1 (ix2 p k) = X (ix2 r k))
    (h2 : ∀ (k : Fin 1024) (f : Fin 2816), x2 (ix2 k f) = A (ix2 k f))
    (h3 : ∀ (k : Fin 1024) (f : Fin 2816), x3 (ix2 k f) = B (ix2 k f))
    (h4 : ∀ (f : Fin 2816) (k : Fin 1024), x4 (ix2 f k) = W (ix2 f k))
    (h5 : ∀ k : Fin 1024, x5 (ix2 0 k) = G (ix1 k))
    (h6 : ∀ k : Fin 1024, x6 (ix5 0 0 0 0 k) = M (ix4 0 5 (gateRow r) k)) :
    Tile.cell x0 x1 x2 x3 x4 x5 x6 p d = out H X A B W G M r d := by
  unfold Tile.cell out
  simp only [h0, h1, h2, h3, h4, h5, h6]

/-- What a grid point stores at one index of its block is the result's entry there. -/
theorem point (c : Dev nD) (t : Fin cfg0.N) (y : S256x1024.Idx) (r : Fin 36864) (d : Fin 1024)
    (hr : r.val = t.val * 256 + (y 0).val) (hd : d.val = (y 1).val) :
    out0_7 (iblk m c 0 t) (iblk m c 1 t) (iblk m c 2 t) (iblk m c 3 t) (iblk m c 4 t) (iblk m c 5 t) (iblk m c 6 t) y
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) r d := by
  have ht : t.val < 144 := lt_of_lt_of_eq t.isLt N_0
  have hy : (y 0).val < 256 := (y 0).isLt
  have e : r.val / 2304 = t.val / 9 := by omega
  have e' : r.val % 2304 < 256 ↔ t.val % 9 = 0 := by omega
  refine (Tile.out_at _ _ _ _ _ _ _ y ⟨(y 0).val, hy⟩ d rfl hd.symm).trans
    (cell_eq _ _ _ _ _ _ _ _ _ _ _ _ _ _ _ r d (fun k => h_at m c t _ k r hr) (fun k => x_at m c t _ k r hr)
      (a_at m c t) (b_at m c t) (w_at m c t) (g_at m c t) (fun k => t_at m c t k _ ?_))
  show (if r.val % 2304 < 256 then 16 else r.val / 2304) = _
  simp only [e, e']

/-- The result array after the run. -/
theorem final (c : Dev nD) : (dats m 0 c).arrAt 7 cfg0.N
    = fun i => out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (i 0) (i 1) := by
  refine (dats m 0 c).arrAt_eq_of_covers 7 _ (by decide +kernel) fun t hf y => ?_
  blk_simp
  rw [after0_7]
  refine point m c t y _ _ ?_ ?_
  all_goals (blk_simp [idx t] <;> try omega)

end Cert.Kernel2Ideal.Array

end
-- ==== Proof.FfnRef.lean ====
/- What the dense feed-forward's reference computes, entry by entry. -/
module

public import proofs.«01_k».proof.Proof.Gen.Reference2Ideal.Run
public import proofs.«01_k».proof.Proof.FfnRow

@[expose] public section

set_option maxRecDepth 16384

noncomputable section

open Idealize.ShloMosaic Idealize.ShloMosaic.TcCoe Idealize.SL.Sem

namespace Cert.Reference2Ideal.Read

open Cert.Reference2Ideal Cert.Reference2Ideal.Gen

variable (H X : FVec Ideal S36864x1024 .f32) (A B : FVec Ideal S1024x2816 .f32) (W : FVec Ideal S2816x1024 .f32)
  (G : FVec Ideal S1024 .f32) (M : FVec Ideal S4x6x24x1024 .f32)

/-- Every token's gate: the context's row for the first 256 tokens of a sequence, the sequence's row for the others. -/
def gates : FVec Ideal S36864x1024 .f32 :=
  shapeCast _ (concatenate S16x2304x1024 1
    [⟨S16x256x1024, (broadcastInDim S16x256x1024 ![2] bcast_S1024_S16x256x1024_2
      (shapeCast _ (extractStridedSlice S1x1x1x1024 ![0, 5, 16, 0] M slices_S4x6x24x1024_S1x1x1x1024_0_5_16_0) shapeCasts_S1x1x1x1024_S1024))⟩,
     ⟨S16x2048x1024, (broadcastInDim S16x2048x1024 ![0, 1, 2] bcast_S16x1x1024_S16x2048x1024_0_1_2
      (broadcastInDim S16x1x1024 ![0, 2] bcast_S16x1024_S16x1x1024_0_2
        (shapeCast _ (extractStridedSlice S1x1x16x1024 ![0, 5, 0, 0] M slices_S4x6x24x1024_S1x1x16x1024_0_5_0_0) shapeCasts_S1x1x16x1024_S16x1024)))⟩]
    concatenates_S16x256x1024_S16x2048x1024_S16x2304x1024_d1) shapeCasts_S16x2304x1024_S36864x1024

/-- One product of all tokens with a first-layer weight. -/
def up (C : FVec Ideal S1024x2816 .f32) : FVec Ideal S36864x2816 .f32 :=
  Host.dotGeneral dot_S36864x1024_S1024x2816_S36864x2816_1_0_0_1_n_n none H C

/-- The hidden units. -/
def hidden : FVec Ideal S36864x2816 .f32 :=
  mulf (mulf (up H A) (Host.divf (broadcastInDim S36864x2816 ![] bcast_S_S36864x2816 (constant S_ .f32 0x3F800000#32))
    (addf (broadcastInDim S36864x2816 ![] bcast_S_S36864x2816 (constant S_ .f32 0x3F800000#32)) (Host.exp (Host.negf (up H A)))))) (up H B)

/-- The second layer. -/
def down (U : FVec Ideal S36864x2816 .f32) : FVec Ideal S36864x1024 .f32 :=
  Host.dotGeneral dot_S36864x2816_S2816x1024_S36864x1024_1_0_0_1_n_n none U W

/-- The norm, the gate and the residual. -/
def finish (T Y : FVec Ideal S36864x1024 .f32) : FVec Ideal S36864x1024 .f32 :=
  addf X (mulf T (mulf (mulf Y (broadcastInDim S36864x1024 ![0, 1] bcast_S36864x1_S36864x1024_0_1
    (Host.rsqrt (addf (Host.divf (broadcastInDim S36864x1 ![0] bcast_S36864_S36864x1_0
      (Host.reduceAdd (mulf Y Y) (constant S_ .f32 0x00000000#32) reducesTo_S36864x1024_S36864_d1 h_S_))
      (broadcastInDim S36864x1 ![] bcast_S_S36864x1 (constant S_ .f32 0x44800000#32)))
      (broadcastInDim S36864x1 ![] bcast_S_S36864x1 (constant S_ .f32 0x358637BD#32))))))
    (broadcastInDim S36864x1024 ![0, 1] bcast_S1x1024_S36864x1024_0_1 (broadcastInDim S1x1024 ![1] bcast_S1024_S1x1024_1 G))))

/-- The reference's result of its seven arguments. -/
def result : FVec Ideal S36864x1024 .f32 := finish X G (gates M) (down W (hidden H A B))

/-- The row of the modulation table that gates a token: the context's for a sequence's first 256 tokens. -/
def gateRow (r : Fin 36864) : Fin 24 := ⟨if r.val % 2304 < 256 then 16 else r.val / 2304, by split <;> omega⟩

theorem gates_at (r : Fin 36864) (d : Fin 1024) : gates M (ix2 r d) = M (ix4 0 5 (gateRow r) d) := by
  have hr := r.isLt
  by_cases h : r.val % 2304 < 256
  · pointwise [gates]
    simp [gateRow, h]
  · pointwise [gates]
    simp [gateRow, h]

theorem hidden_at (r : Fin 36864) (f : Fin 2816) : hidden H A B (ix2 r f)
    = Ffn.unit (fun k => H (ix2 r k)) (fun k => A (ix2 k f)) (fun k => B (ix2 k f)) := by
  pointwise [hidden, up, Ffn.unit, Ffn.silu]

theorem down_at (U : FVec Ideal S36864x2816 .f32) (r : Fin 36864) (d : Fin 1024) :
    down W U (ix2 r d) = ∑ f : Fin 2816, U (ix2 r f) * W (ix2 f d) := by
  pointwise [down]

theorem finish_at (T Y : FVec Ideal S36864x1024 .f32) (r : Fin 36864) (d : Fin 1024) :
    finish X G T Y (ix2 r d) = Ffn.add (X (ix2 r d)) (T (ix2 r d)) (fun e => Y (ix2 r e)) (fun e => G (ix1 e)) d := by
  pointwise [finish, Ffn.add]

/-- The reference's entry: the token's row, normed, gated, and added to the residual stream. -/
theorem result_at (r : Fin 36864) (d : Fin 1024) : result H X A B W G M (ix2 r d)
    = Ffn.add (X (ix2 r d)) (M (ix4 0 5 (gateRow r) d))
        (fun e => Ffn.out (fun k => H (ix2 r k)) (fun k f => A (ix2 k f)) (fun k f => B (ix2 k f)) (fun f => W (ix2 f e)))
        (fun e => G (ix1 e)) d := by
  rw [result, finish_at, gates_at]
  simp only [down_at, hidden_at, Ffn.out]

end Cert.Reference2Ideal.Read

end
-- ==== Proof.FfnEqual.lean ====
/- The dense feed-forward and its reference leave equal arrays. -/
module

public import proofs.«01_k».proof.Defs
public import proofs.«01_k».proof.Proof.FfnArray
public import proofs.«01_k».proof.Proof.FfnRef
public import Idealize.ShloMosaic.Lib.Claim

@[expose] public section

set_option maxRecDepth 16384

noncomputable section

namespace Cert.FfnEqual

open Idealize.ShloMosaic Idealize.ShloMosaic.TcCoe Idealize.SL.Sem

/-- The two result arrays are equal. -/
theorem result_eq (H X : FVec Ideal Kernel2Ideal.S36864x1024 .f32) (A B : FVec Ideal Kernel2Ideal.S1024x2816 .f32)
    (W : FVec Ideal Kernel2Ideal.S2816x1024 .f32) (G : FVec Ideal Kernel2Ideal.S1024 .f32)
    (M : FVec Ideal Kernel2Ideal.S4x6x24x1024 .f32) :
    Reference2Ideal.Read.result H X A B W G M = fun i => Kernel2Ideal.Array.out H X A B W G M (i 0) (i 1) :=
  funext fun i => by
    refine Eq.trans (congrArg _ ?_) (Reference2Ideal.Read.result_at H X A B W G M (i 0) (i 1))
    funext a; match a with
    | 0 => rfl
    | 1 => rfl

/-- From arguments that agree, the kernel and the reference run to equal results. -/
theorem algebraic : Cert.algebraic_Kernel2Ideal_Reference2Ideal := by
  pair_intro
  · run_from Cert.Kernel2Ideal.Value.run_blocks m g
  · run_from Cert.Reference2Ideal.Value.run m' g'
    refine (result_eq _ _ _ _ _ _ _).trans (Eq.trans ?_ (Kernel2Ideal.Array.final m c).symm)
    rw [(hagree c).2.2.2.2.2.2]
    rfl

end Cert.FfnEqual

end
-- ==== Proof.MoeSlot.lean ====
/- The gather ring of the experts' call: one slot's eight-row blocks, the token rows they are copied from, and
the loops that start and wait for a slot's copies. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.ValueLayout

@[expose] public section

set_option maxRecDepth 16384

noncomputable section

namespace Cert.Kernel3Ideal.Moe

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (Pipeline.UD sig nD τ) ℕ

/-! ## The memrefs -/

theorem inbSlot (s : Fin 3) : ∀ a, (![s.val, 0, 0] : Fin 3 → Nat) a + S1x2048x128.size a ≤ S3x2048x128.size a := by
  have := s.isLt; intro a; fin_cases a
  · show s.val + 1 ≤ 3; omega
  · show 0 + 2048 ≤ 2048; omega
  · show 0 + 128 ≤ 128; omega
theorem inbSem (s : Fin 3) : ∀ a, (![s.val] : Fin 1 → Nat) a + S1.size a ≤ S3.size a := by
  have := s.isLt; intro a; fin_cases a
  show s.val + 1 ≤ 3; omega
theorem inbBlk (k : Fin 256) : ∀ a, (![8 * k.val, 0] : Fin 2 → Nat) a + S8x128.size a ≤ S2048x128.size a := by
  have := k.isLt; intro a; fin_cases a
  · show 8 * k.val + 8 ≤ 2048; omega
  · show 0 + 128 ≤ 128; omega
theorem inbRow (r : Fin 36864) : ∀ a, (![8 * r.val, 0] : Fin 2 → Nat) a + S8x128.size a ≤ S294912x128.size a := by
  have := r.isLt; intro a; fin_cases a
  · show 8 * r.val + 8 ≤ 294912; omega
  · show 0 + 128 ≤ 128; omega

/-- Slot `s` of the ring, as a `2048 × 128` array. -/
def slotM (s : Fin 3) : Memref sig .tc .vmem S2048x128 .f32 :=
  ((Memref.whole cc0_scratch0).slice (Rect.unit (s := S3x2048x128) ![s.val, 0, 0] S1x2048x128.size (inbSlot s)) (fun _ => rfl)).squeeze S2048x128 squeezes_S1x2048x128_S2048x128
/-- Block `k` of slot `s`: eight rows. -/
def blkM (s : Fin 3) (k : Fin 256) : Memref sig .tc .vmem S8x128 .f32 :=
  (slotM s).slice (Rect.unit (s := S2048x128) ![8 * k.val, 0] S8x128.size (inbBlk k)) (fun _ => rfl)
/-- Token `r`'s eight rows of the tokens' array. -/
def tokM (r : Fin 36864) : Memref sig .tc .hbm S8x128 .f32 :=
  (Memref.whole main_v0).slice (Rect.unit (s := S294912x128) ![8 * r.val, 0] S8x128.size (inbRow r)) (fun _ => rfl)
/-- Slot `s`'s semaphore. -/
def semS (s : Fin 3) : DmaSem sig :=
  ((cc0_scratch1.slice (Rect.unit (s := S3) ![s.val] S1.size (inbSem s))).squeeze S_ squeezes_S1_S_).sem

theorem semS_eq : semS 0 = 14 ∧ semS 1 = 15 ∧ semS 2 = 16 := by decide

/-! ## Where a block's elements lie -/

/-- Where a block, a slot and a token's rows place their elements. -/
def blkE (s : Fin 3) (k : Fin 256) (x : S8x128.Idx) : S3x2048x128.Idx := (blkM s k).view.emb x
def slotE (s : Fin 3) (x : S2048x128.Idx) : S3x2048x128.Idx := (slotM s).view.emb x
def tokE (r : Fin 36864) (x : S8x128.Idx) : S294912x128.Idx := (tokM r).view.emb x
/-- A block's and a slot's elements, as sets of the ring's indices. -/
def bset (s : Fin 3) (k : Fin 256) : Finset S3x2048x128.Idx := (blkM s k).view.set
def sset (s : Fin 3) : Finset S3x2048x128.Idx := (slotM s).view.set

theorem slot_emb (s : Fin 3) (a : Fin 2048) (b : Fin 128) : slotE s (ix2 a b) = ix3 s a b := by
  have h2 := reshapeEquiv_ix2_1ab (Shape.Squeezes.numel_eq squeezes_S1x2048x128_S2048x128) a b
  show (Rect.unit (s := S3x2048x128) ![s.val, 0, 0] S1x2048x128.size (inbSlot s)).emb
    (Shape.reshapeEquiv (Shape.Squeezes.numel_eq squeezes_S1x2048x128_S2048x128) (ix2 a b : S2048x128.Idx)) = _
  refine (congrArg _ h2).trans ?_
  funext i; refine Fin.ext ?_; fin_cases i
  · show s.val + 1 * 0 = s.val; omega
  · show 0 + 1 * a.val = a.val; omega
  · show 0 + 1 * b.val = b.val; omega

theorem blk_emb (s : Fin 3) (k : Fin 256) (a : Fin 8) (b : Fin 128) :
    blkE s k (ix2 a b) = ix3 s (⟨8 * k.val + a.val, by omega⟩ : Fin 2048) b := by
  have h1 : (Rect.unit (s := S2048x128) ![8 * k.val, 0] S8x128.size (inbBlk k)).emb (ix2 a b : S8x128.Idx)
      = (ix2 (⟨8 * k.val + a.val, by omega⟩ : Fin 2048) b : S2048x128.Idx) := by
    funext i; refine Fin.ext ?_; fin_cases i
    · show 8 * k.val + 1 * a.val = 8 * k.val + a.val; omega
    · show 0 + 1 * b.val = b.val; omega
  show slotE s ((Rect.unit (s := S2048x128) ![8 * k.val, 0] S8x128.size (inbBlk k)).emb (ix2 a b : S8x128.Idx)) = _
  rw [h1, slot_emb]

theorem tok_emb (r : Fin 36864) (a : Fin 8) (b : Fin 128) :
    tokE r (ix2 a b) = ix2 (⟨8 * r.val + a.val, by omega⟩ : Fin 294912) b := by
  show (Rect.unit (s := S294912x128) ![8 * r.val, 0] S8x128.size (inbRow r)).emb (ix2 a b : S8x128.Idx) = _
  funext i; refine Fin.ext ?_; fin_cases i
  · show 8 * r.val + 1 * a.val = 8 * r.val + a.val; omega
  · show 0 + 1 * b.val = b.val; omega

theorem mem_bset (s : Fin 3) (k : Fin 256) (y : S3x2048x128.Idx) : y ∈ bset s k ↔ ∃ (a : Fin 8) (b : Fin 128), blkE s k (ix2 a b) = y := by
  constructor
  · intro h
    obtain ⟨x, -, hx⟩ := Finset.mem_map.mp h
    have hx' : x = (ix2 (x 0) (x 1) : S8x128.Idx) := by funext i; fin_cases i <;> rfl
    exact ⟨x 0, x 1, (congrArg (blkE s k) hx'.symm).trans hx⟩
  · rintro ⟨a, b, h⟩; exact Finset.mem_map.mpr ⟨ix2 a b, Finset.mem_univ _, h⟩

theorem mem_sset (s : Fin 3) (y : S3x2048x128.Idx) : y ∈ sset s ↔ ∃ (a : Fin 2048) (b : Fin 128), slotE s (ix2 a b) = y := by
  constructor
  · intro h
    obtain ⟨x, -, hx⟩ := Finset.mem_map.mp h
    have hx' : x = (ix2 (x 0) (x 1) : S2048x128.Idx) := by funext i; fin_cases i <;> rfl
    exact ⟨x 0, x 1, (congrArg (slotE s) hx'.symm).trans hx⟩
  · rintro ⟨a, b, h⟩; exact Finset.mem_map.mpr ⟨ix2 a b, Finset.mem_univ _, h⟩

/-- The elements of block `k` of slot `s`, and of slot `s`. -/
theorem mem_blk (s : Fin 3) (k : Fin 256) (y : S3x2048x128.Idx) :
    y ∈ bset s k ↔ (y 0).val = s.val ∧ (y 1).val / 8 = k.val := by
  have hy1 : (y 1).val < 2048 := (y 1).isLt
  rw [mem_bset]
  constructor
  · rintro ⟨a, b, rfl⟩
    rw [blk_emb]
    refine ⟨rfl, ?_⟩
    show (8 * k.val + a.val) / 8 = k.val
    omega
  · rintro ⟨h0, h1⟩
    refine ⟨⟨(y 1).val % 8, Nat.mod_lt _ (by decide)⟩, y 2, (blk_emb s k _ _).trans ?_⟩
    funext i; refine Fin.ext ?_; fin_cases i
    · exact h0.symm
    · show 8 * k.val + (y 1).val % 8 = (y 1).val; omega
    · rfl

theorem mem_slot (s : Fin 3) (y : S3x2048x128.Idx) : y ∈ sset s ↔ (y 0).val = s.val := by
  rw [mem_sset]
  constructor
  · rintro ⟨a, b, rfl⟩; rw [slot_emb]
  · intro h0
    refine ⟨y 1, y 2, (slot_emb s _ _).trans ?_⟩
    funext i; refine Fin.ext ?_; fin_cases i
    · exact h0.symm
    · rfl
    · rfl

/-! ## What a slot holds once its copies have landed -/

/-- The gathered rows: block `k` holds token `r k`'s eight rows. -/
def gath (h : S294912x128.Idx → Elt F .f32) (r : Fin 256 → Fin 36864) : S3x2048x128.Idx → Elt F .f32 := fun y =>
  have h1 : (y 1).val < 2048 := (y 1).isLt
  h (ix2 (⟨8 * (r ⟨(y 1).val / 8, by omega⟩).val + (y 1).val % 8, by
    have := (r ⟨(y 1).val / 8, by omega⟩).isLt; omega⟩ : Fin 294912) (y 2))

variable (c : Dev nD)

/-- A points-to on slot `s`, its blocks, and the token rows a copy reads. -/
abbrev slotPt (s : Fin 3) (f : S3x2048x128.Idx → Elt F .f32) : sProp 𝕄 :=
  (slotM s).view.loc (c : Thread nD τ) ↦[(slotM s).view.set]{fullShare} f
abbrev blkPt (s : Fin 3) (f : S3x2048x128.Idx → Elt F .f32) (k : Fin 256) : sProp 𝕄 :=
  (blkM s k).view.loc (c : Thread nD τ) ↦[(blkM s k).view.set]{fullShare} f
abbrev hPt (q : PosShare TreeShare) (h : S294912x128.Idx → Elt F .f32) : sProp 𝕄 :=
  (Memref.whole main_v0 : Memref sig .tc .hbm S294912x128 .f32).view.loc (c : Thread nD τ) ↦{q} h
abbrev tokPt (q : PosShare TreeShare) (h : S294912x128.Idx → Elt F .f32) (r : Fin 256 → Fin 36864) (k : Fin 256) : sProp 𝕄 :=
  (tokM (r k)).view.loc (c : Thread nD τ) ↦[(tokM (r k)).view.set]{Transfers.shareTokN q k.val} h
abbrev restPt (q : PosShare TreeShare) (h : S294912x128.Idx → Elt F .f32) (r : Fin 256 → Fin 36864) (k : Fin 256) : sProp 𝕄 :=
  (tokM (r k)).view.loc (c : Thread nD τ) ↦[Finset.univ \ (tokM (r k)).view.set]{Transfers.shareTokN q k.val} h

theorem bset_disjoint (s : Fin 3) (k k' : Fin 256) (hne : k ≠ k') : Disjoint (bset s k) (bset s k') := by
  rw [Finset.disjoint_left]; intro y hy hy'
  exact hne (Fin.ext (((mem_blk s k y).mp hy).2.symm.trans ((mem_blk s k' y).mp hy').2))

theorem bset_cover (s : Fin 3) : Finset.univ.biUnion (bset s) = sset s := by
  ext y
  rw [Finset.mem_biUnion, mem_slot]
  constructor
  · rintro ⟨k, -, hk⟩; exact ((mem_blk s k y).mp hk).1
  · intro h
    have : (y 1).val < 2048 := (y 1).isLt
    exact ⟨⟨(y 1).val / 8, by omega⟩, Finset.mem_univ _, (mem_blk s _ y).mpr ⟨h, rfl⟩⟩

/-- A slot is its blocks, at the same contents. -/
theorem slot_blocks (s : Fin 3) (f : S3x2048x128.Idx → Elt F .f32) :
    slotPt (F := F) c s f = bigSep Finset.univ (blkPt (F := F) c s f) :=
  Ring.pointsTo_sub_blocks (ℓ := (slotM s).view.loc (c : Thread nD τ)) (bset s) (bset_disjoint s) (sset s) (bset_cover s) f

/-- The tokens' array at a share is 256 lent rows, what each token's share keeps besides, and the share's rest. -/
theorem h_split (q : PosShare TreeShare) (h : S294912x128.Idx → Elt F .f32) (r : Fin 256 → Fin 36864) :
    hPt (F := F) c q h = iprop(hPt (F := F) c (Transfers.shareDrop q 256) h ∗ bigSep Finset.univ (tokPt (F := F) c q h r)
      ∗ bigSep Finset.univ (restPt (F := F) c q h r)) := by
  have e1 : hPt (F := F) c q h = iprop(hPt (F := F) c (Transfers.shareDrop q 256) h
      ∗ bigSep (Finset.range 256) (fun i => hPt (F := F) c (Transfers.shareTokN q i) h)) :=
    Entails.antisymm (Transfers.pointsTo_toks_range q 256).1 (Transfers.pointsTo_toks_range q 256).2
  have e2 : bigSep (Finset.range 256) (fun i => hPt (F := F) c (Transfers.shareTokN q i) h)
      = bigSep Finset.univ (fun k : Fin 256 => hPt (F := F) c (Transfers.shareTokN q k.val) h) := by
    have := Ring.bigSep_rangeSet_eq_range (NB := 256) (lo := 0) (hi := 256)
      (Φ := fun k : Fin 256 => hPt (F := F) c (Transfers.shareTokN q k.val) h) le_rfl
      (fun i => hPt (F := F) c (Transfers.shareTokN q i) h) (fun k hk => by
        show hPt c (Transfers.shareTokN q k) h = hPt c (Transfers.shareTokN q (0 + k)) h; rw [Nat.zero_add])
    rw [Ring.rangeSet_univ] at this
    exact this.symm
  have e3 : (fun k : Fin 256 => hPt (F := F) c (Transfers.shareTokN q k.val) h)
      = fun k => iprop(tokPt (F := F) c q h r k ∗ restPt (F := F) c q h r k) := by
    funext k
    have hu : hPt (F := F) c (Transfers.shareTokN q k.val) h
        = ((tokM (r k)).view.loc (c : Thread nD τ) ↦[(tokM (r k)).view.set ∪ (Finset.univ \ (tokM (r k)).view.set)]{Transfers.shareTokN q k.val} h : sProp 𝕄) := by
      rw [Finset.union_sdiff_of_subset (Finset.subset_univ (tokM (r k)).view.set)]; rfl
    exact Entails.antisymm ((Entails.of_eq hu).trans (pointsTo_union Finset.disjoint_sdiff).1)
      ((pointsTo_union Finset.disjoint_sdiff).2.trans (Entails.of_eq hu.symm))
  rw [e1, e2, e3]
  congr 1
  exact BI.bigSep_sep _ _ _

/-- What copy `k` of a slot delivers: the block holding the token's rows, and the rows' share back. -/
abbrev dlv (s : Fin 3) (q : PosShare TreeShare) (h : S294912x128.Idx → Elt F .f32) (r : Fin 256 → Fin 36864) (k : Fin 256) : sProp 𝕄 :=
  iprop(blkPt (F := F) c s (gath h r) k ∗ tokPt (F := F) c q h r k)

theorem pt_storable (ℓ : Loc nD τ sig) (I : Finset (Idx ℓ)) (q : PosShare TreeShare) (f : Buf (Elt F) ℓ) :
    BI.Storable (upEmb : UEmb _ 𝕄) (ℓ ↦[I]{q} f : sProp 𝕄) := inferInstance
instance blk_storable (s : Fin 3) (f : S3x2048x128.Idx → Elt F .f32) (k : Fin 256) :
    BI.Storable (upEmb : UEmb _ 𝕄) (blkPt (F := F) c s f k) := pt_storable _ _ _ _
instance tok_storable (q : PosShare TreeShare) (h : S294912x128.Idx → Elt F .f32) (r : Fin 256 → Fin 36864) (k : Fin 256) :
    BI.Storable (upEmb : UEmb _ 𝕄) (tokPt (F := F) c q h r k) := pt_storable _ _ _ _
instance dlv_storable (s : Fin 3) (q : PosShare TreeShare) (h : S294912x128.Idx → Elt F .f32) (r : Fin 256 → Fin 36864) (k : Fin 256) :
    BI.Storable (upEmb : UEmb _ 𝕄) (dlv (F := F) c s q h r k) := by
  have := blk_storable (F := F) c s (gath h r) k; have := tok_storable (F := F) c q h r k
  exact BI.Storable.sep (upEmb : UEmb _ 𝕄) _ _

/-- A copy's write into its block is the gathered rows there. -/
theorem landed (s : Fin 3) (k : Fin 256) (h : S294912x128.Idx → Elt F .f32) (r : Fin 256 → Fin 36864)
    (fd : S3x2048x128.Idx → Elt F .f32) :
    ((blkM s k).view.loc (c : Thread nD τ) ↦[(blkM s k).view.set]{fullShare}
        (blkM s k).view.write (Elt F) fd ((tokM (r k)).view.read (Elt F) h) Finset.univ : sProp 𝕄)
      = blkPt (F := F) c s (gath h r) k := by
  refine pointsTo_congr fun y hy => ?_
  obtain ⟨a, b, rfl⟩ := (mem_bset s k y).mp hy
  refine (View.write_emb_of_mem _ _ (Finset.mem_univ (ix2 a b : S8x128.Idx))).trans ?_
  show h (tokE (r k) (ix2 a b)) = gath h r (blkE s k (ix2 a b))
  rw [tok_emb, blk_emb]
  show h (ix2 _ b) = h (ix2 _ b)
  congr 1
  funext i; refine Fin.ext ?_; fin_cases i
  · show 8 * (r k).val + a.val = 8 * (r ⟨(8 * k.val + a.val) / 8, _⟩).val + (8 * k.val + a.val) % 8
    have e : (⟨(8 * k.val + a.val) / 8, by omega⟩ : Fin 256) = k := Fin.ext (by show (8 * k.val + a.val) / 8 = k.val; omega)
    rw [e]; omega
  · rfl

/-! ## Starting one copy -/

/-- The credit of one copy, -/
def cN : ℕ := (blkM 0 0).view.dmaCredit
/-- not nothing. -/
theorem cN_pos : 0 < cN := View.dmaCredit_pos _ (by decide)

/-- The batch of a slot's copies: `k` started, `u` units of credit waited for. -/
abbrev batch (s : Fin 3) (q : PosShare TreeShare) (h : S294912x128.Idx → Elt F .f32) (r : Fin 256 → Fin 36864) (k u : ℕ) : sProp 𝕄 :=
  Transfers.Batch (countersEmb (U := Pipeline.UD sig nD τ)) (c : Thread nD τ) (.dma (semS s)) () cN (dlv (F := F) c s q h r) k u

theorem blkM_eq (s : Fin 3) (k : Fin 256) (o : Fin 3 → ℕ) (ho) (o' : Fin 2 → ℕ) (ho') (e : o = ![s.val, 0, 0]) (e' : o' = ![8 * k.val, 0]) :
    (((Memref.whole cc0_scratch0).slice (Rect.unit (s := S3x2048x128) o S1x2048x128.size ho) (fun _ => rfl)).squeeze S2048x128 squeezes_S1x2048x128_S2048x128).slice
      (Rect.unit (s := S2048x128) o' S8x128.size ho') (fun _ => rfl) = blkM s k := by subst e e'; rfl
theorem tokM_eq (r : Fin 36864) (o : Fin 2 → ℕ) (ho) (e : o = ![8 * r.val, 0]) :
    (Memref.whole main_v0).slice (Rect.unit (s := S294912x128) o S8x128.size ho) (fun _ => rfl) = tokM r := by subst e; rfl
theorem semS_of (s : Fin 3) (o : Fin 1 → ℕ) (ho) (e : o = ![s.val]) :
    ((cc0_scratch1.slice (Rect.unit (s := S3) o S1.size ho)).squeeze S_ squeezes_S1_S_).sem = semS s := by subst e; rfl

/-- One trip of a loop that starts copies, over the offsets it computes: the token's number read, its rows sent to the block. -/
def issueG (M : Memref sig .tc .smem S1x1x256 .i32) (P : BitVec 32 → Prop) (dec : ∀ v, Decidable (P v))
    (oL : Fin 3 → ℕ) (hL : ∀ a, oL a + S1x1x1.size a ≤ S1x1x256.size a) (oS : Fin 1 → ℕ) (hS : ∀ a, oS a + S1.size a ≤ S3.size a)
    (oR : Fin 3 → ℕ) (hR : ∀ a, oR a + S1x2048x128.size a ≤ S3x2048x128.size a) (oB : Fin 2 → ℕ) (hB : ∀ a, oB a + S8x128.size a ≤ S2048x128.size a)
    (oT : BitVec 32 → Fin 2 → ℕ) (hT : ∀ v, P v → ∀ a, oT v a + S8x128.size a ≤ S294912x128.size a) :
    Prog (TpuEff nD τ sig (Elt F) Λ₀ .tc) Unit := do
  let v : Elt F .i32 ← smemLoad M (Rect.unit (s := S1x1x256) oL S1x1x1.size hL) numel1_S1x1x1 rfl
  have hw : P v := (← Prog.lift (TpuEff.assume (P v) (dec v))).down
  let sem : DmaSems sig S_ := (cc0_scratch1.slice (Rect.unit (s := S3) oS S1.size hS)).squeeze S_ squeezes_S1_S_
  let dst : Memref sig .tc .vmem S8x128 .f32 := (((Memref.whole cc0_scratch0).slice (Rect.unit (s := S3x2048x128) oR S1x2048x128.size hR) (fun _ => rfl)).squeeze S2048x128 squeezes_S1x2048x128_S2048x128).slice (Rect.unit (s := S2048x128) oB S8x128.size hB) (fun _ => rfl)
  let src : Memref sig .tc .hbm S8x128 .f32 := (Memref.whole main_v0).slice (Rect.unit (s := S294912x128) (oT v) S8x128.size (hT v hw)) (fun _ => rfl)
  Prog.lift (.enqueueDma src (.here dst) (.dma sem.sem) (View.wordExact_bits rfl) (View.wordExact_bits rfl) ⟨Or.inl rfl, trivial⟩)
  pure ⟨⟩

/-- Every copy of eight rows is the same credit. -/
theorem amount_blk (s : Fin 3) (k : Fin 256) : (blkM s k).view.dmaCredit = cN := rfl

/-- The start itself, of copy `k` into its slot: the batch holds it, lent the token's rows and the block. -/
theorem enq_step (s : Fin 3) (q : PosShare TreeShare) (h : S294912x128.Idx → Elt F .f32) (r : Fin 256 → Fin 36864) (g : S3x2048x128.Idx → Elt F .f32) (k : Fin 256)
    (src : Memref sig .tc .hbm S8x128 .f32) (dst : Memref sig .tc .vmem S8x128 .f32) (sem : DmaSem sig)
    (e1 : src = tokM (r k)) (e2 : dst = blkM s k) (e3 : sem = semS s) (h1) (h2) (h3) (Q : Unit → sProp 𝕄) :
    iprop(tokPt (F := F) c q h r k ∗ blkPt (F := F) c s g k ∗ batch (F := F) c s q h r k.val 0)
      ⊢ iprop((batch (F := F) c s q h r (k.val + 1) 0 -∗ Q ⟨⟩) -∗
        wp frame (wpE (defs₀ (F := F)) Variants.none c none) Set.univ
          (Prog.op (TpuEff.enqueueDma src (.here dst) (.dma sem) h1 h2 h3) fun _ => (pure ⟨⟩ : Prog (TpuEff nD τ sig (Elt F) Λ₀ .tc) Unit)) Q) := by
  subst e1 e2 e3
  have key := Transfers.wp_dmaBatch (countersEmb (U := Pipeline.UD sig nD τ)) (defs := defs₀ (F := F)) Variants.none (c : Thread nD τ) none (src := tokM (r k)) (dst := blkM s k) (via := ReadAs.same) (sm := .dma (semS s))
    (hsrc := h1) (hdst := h2) (hsem := h3) (k := fun _ => (pure ⟨⟩ : Prog (TpuEff nD τ sig (Elt F) Λ₀ .tc) Unit)) (Q := Q)
    (Sd := (blkM s k).view.set) (q := Transfers.shareTokN q k.val) (fs := h) (fd := g) (D := dlv (F := F) c s q h r) (j := k.val) (u := 0)
    () cN (amount_blk s k) (Finset.Subset.refl _) k.isLt (Nat.zero_le _)
    (sep_mono (Entails.of_eq (landed (F := F) c s k h r g)) .rfl)
  refine key.trans ?_
  iintro Hw Hk
  iapply Hw
  iintro HB
  sl_step
  iapply Hk; iexact HB

/-- The word a start reads is the table's entry. -/
theorem word_at (M : Memref sig .tc .smem S1x1x256 .i32) (hM : M.IsWhole) (x : Vec F S1x1x256 .i32) (k : Fin 256)
    (hL : ∀ a, (![0, 0, k.val] : Fin 3 → ℕ) a + S1x1x1.size a ≤ S1x1x256.size a) :
    M.view.readAt (Elt F) (Rect.unit (s := S1x1x256) ![0, 0, k.val] S1x1x1.size hL).toLoadRect (hM.unread x) (Shape.Idx.first (numel1_S1x1x1.symm ▸ Nat.one_pos))
      = x (ix3 0 0 k) := by
  rw [View.readAt_apply, hM.read_unread]
  congr 1
  funext i; refine Fin.ext ?_; fin_cases i
  · rfl
  · rfl
  · show k.val + 1 * 0 = k.val; omega

theorem issue_step (M : Memref sig .tc .smem S1x1x256 .i32) (hM : M.IsWhole) (x : Vec F S1x1x256 .i32) (s : Fin 3) (q : PosShare TreeShare)
    (h : S294912x128.Idx → Elt F .f32) (r : Fin 256 → Fin 36864) (g : S3x2048x128.Idx → Elt F .f32) (k : Fin 256)
    (P : BitVec 32 → Prop) (dec : ∀ v, Decidable (P v)) (oL hL oS hS oR hR oB hB oT hT)
    (eL : oL = ![0, 0, k.val]) (eS : oS = ![s.val]) (eR : oR = ![s.val, 0, 0]) (eB : oB = ![8 * k.val, 0])
    (eT : oT (x (ix3 0 0 k)) = ![8 * (r k).val, 0]) (hP : P (x (ix3 0 0 k))) :
    iprop(owns (c : Thread nD τ) M fullShare x ∗ batch (F := F) c s q h r k.val 0 ∗ blkPt (F := F) c s g k ∗ tokPt (F := F) c q h r k)
      ⊢ wp frame (wpE (defs₀ (F := F)) Variants.none c none) Set.univ (issueG (F := F) M P dec oL hL oS hS oR hR oB hB oT hT)
        (fun _ => iprop(owns (c : Thread nD τ) M fullShare x ∗ batch (F := F) c s q h r (k.val + 1) 0)) := by
  subst eL
  unfold owns
  iintro ⟨⟨%f, %hf, HM⟩, HB, Hd, Hs⟩
  obtain rfl := hM.eq_unread hf
  have hv := word_at (F := F) M hM x k hL
  have hP' : P (M.view.readAt (Elt F) (Rect.unit (s := S1x1x256) ![0, 0, k.val] S1x1x1.size hL).toLoadRect (hM.unread x) (Shape.Idx.first (numel1_S1x1x1.symm ▸ Nat.one_pos))) := by
    rw [hv]; exact hP
  unfold issueG
  sl_exec (disch := first | sl_exact hP')
  iapply (enq_step (F := F) c s q h r g k _ _ _ (tokM_eq (r k) _ _ ((congrArg oT hv).trans eT)) (blkM_eq s k _ _ _ _ eR eB) (semS_of s _ _ eS) _ _ _ _) $$ [Hs Hd HB]
  · isplitl [Hs]; · iexact Hs
    isplitl [Hd]; · iexact Hd
    iexact HB
  iintro HB
  isplitl [HM]
  · iexists _; isplitr; · ipureintro; exact hf
    iexact HM
  iexact HB

/-! ## A slot free, and a slot in flight -/

/-- A slot nothing is being copied into: its rows at any contents, its semaphore at zero, its share of the token array. -/
def free (s : Fin 3) (q : PosShare TreeShare) (h : S294912x128.Idx → Elt F .f32) : sProp 𝕄 :=
  iprop((∃ g, slotPt (F := F) c s g) ∗ semVal ((c : Thread nD τ), .dma (semS s)) 0 ∗ hPt (F := F) c q h)

/-- A slot the copies of a tile are on their way to: the batch with every copy started and none waited for, and what the copies were not lent. -/
def flight (s : Fin 3) (q : PosShare TreeShare) (h : S294912x128.Idx → Elt F .f32) (r : Fin 256 → Fin 36864) : sProp 𝕄 :=
  iprop(batch (F := F) c s q h r 256 0 ∗ hPt (F := F) c (Transfers.shareDrop q 256) h ∗ bigSep Finset.univ (restPt (F := F) c q h r))

/-- A slot whose copies have landed: the gathered rows, the semaphore at zero, the share of the token array back. -/
def landedSlot (s : Fin 3) (q : PosShare TreeShare) (h : S294912x128.Idx → Elt F .f32) (r : Fin 256 → Fin 36864) : sProp 𝕄 :=
  iprop(slotPt (F := F) c s (gath h r) ∗ semVal ((c : Thread nD τ), .dma (semS s)) 0 ∗ hPt (F := F) c q h)

theorem landedSlot_free (s : Fin 3) (q : PosShare TreeShare) (h : S294912x128.Idx → Elt F .f32) (r : Fin 256 → Fin 36864) :
    landedSlot (F := F) c s q h r ⊢ free (F := F) c s q h := by
  unfold landedSlot free
  iintro ⟨H1, H2, H3⟩
  isplitl [H1]; · iexists _; iexact H1
  isplitl [H2]; · iexact H2
  iexact H3

/-- The loop that starts a tile's copies takes a free slot to one in flight. -/
theorem issue_loop (M : Memref sig .tc .smem S1x1x256 .i32) (x : Vec F S1x1x256 .i32) (s : Fin 3) (q : PosShare TreeShare)
    (h : S294912x128.Idx → Elt F .f32) (r : Fin 256 → Fin 36864) (l : Scf.Loop 32) (hok : l.OK) (hl : l.trips = 256)
    (body : Fin l.trips → Unit → Prog (TpuEff nD τ sig (Elt F) Λ₀ .tc) Unit)
    (hb : ∀ (k : Fin l.trips) (g : S3x2048x128.Idx → Elt F .f32),
      iprop(owns (c : Thread nD τ) M fullShare x ∗ batch (F := F) c s q h r k.val 0 ∗ blkPt (F := F) c s g ⟨k.val, hl ▸ k.isLt⟩ ∗ tokPt (F := F) c q h r ⟨k.val, hl ▸ k.isLt⟩)
      ⊢ wp frame (wpE (defs₀ (F := F)) Variants.none c none) Set.univ (body k ⟨⟩)
        (fun _ => iprop(owns (c : Thread nD τ) M fullShare x ∗ batch (F := F) c s q h r (k.val + 1) 0)))
    {β : Type} (kk : Unit → Prog (TpuEff nD τ sig (Elt F) Λ₀ .tc) β) (Q : β → sProp 𝕄) :
    iprop(owns (c : Thread nD τ) M fullShare x ∗ free (F := F) c s q h)
      ⊢ iprop((iprop(owns (c : Thread nD τ) M fullShare x ∗ flight (F := F) c s q h r) -∗ wp frame (wpE (defs₀ (F := F)) Variants.none c none) Set.univ (kk ⟨⟩) Q)
        -∗ wp frame (wpE (defs₀ (F := F)) Variants.none c none) Set.univ (Scf.Loop.for l hok ⟨⟩ body >>= kk) Q) := by
  unfold free
  iintro ⟨HM, ⟨%g, Hg⟩, Hc, Hh⟩ Hk
  imod (Transfers.batch_alloc' (countersEmb (U := Pipeline.UD sig nD τ)) (c : Thread nD τ) (sm := .dma (semS s)) () cN (dlv (F := F) c s q h r) (E := Set.univ)) $$ Hc with HB
  ihave Hg := (Entails.of_eq (slot_blocks (F := F) c s g)) $$ Hg
  ihave Hh := (Entails.of_eq (h_split (F := F) c q h r)) $$ Hh
  icases Hh with ⟨Hd, Ht, Hr⟩
  iapply (Scf.wp_for_bind frame (wpE (defs₀ (F := F)) Variants.none c none) Set.univ l.lb l.ub l.st hok ⟨⟩ body
    (fun k _ => iprop(owns (c : Thread nD τ) M fullShare x ∗ batch (F := F) c s q h r k 0
      ∗ bigSep (Ring.rangeSet 256 k 256) (blkPt (F := F) c s g) ∗ bigSep (Ring.rangeSet 256 k 256) (tokPt (F := F) c q h r)))
    (fun k _ => by
      have hk : k.val < 256 := hl ▸ k.isLt
      rw [Ring.bigSep_rangeSet_head (Φ := blkPt (F := F) c s g) hk hk, Ring.bigSep_rangeSet_head (Φ := tokPt (F := F) c q h r) hk hk]
      iintro ⟨HM, HB, ⟨Hb, Hbs⟩, Ht, Hts⟩
      ihave Hw := (hb k g) $$ [HM HB Hb Ht]
      · isplitl [HM]; · iexact HM
        isplitl [HB]; · iexact HB
        isplitl [Hb]; · iexact Hb
        iexact Ht
      iapply (wp_wand frame (wpE (defs₀ (F := F)) Variants.none c none) Set.univ) $$ Hw
      iintro %_ ⟨HM, HB⟩
      isplitl [HM]; · iexact HM
      isplitl [HB]; · iexact HB
      isplitl [Hbs]; · iexact Hbs
      iexact Hts)) $$ [HM HB Hg Ht]
  · rw [Ring.rangeSet_univ]
    isplitl [HM]; · iexact HM
    isplitl [HB]; · iexact HB
    isplitl [Hg]; · iexact Hg
    iexact Ht
  iintro %_ ⟨HM, HB, -, -⟩
  iapply Hk
  isplitl [HM]; · iexact HM
  unfold flight
  isplitl [HB]
  · rw [show (256 : ℕ) = l.trips from hl.symm]; iexact HB
  isplitl [Hd]; · iexact Hd
  iexact Hr

/-! ## Waiting for a slot -/

/-- One trip of a loop that waits for copies. -/
def waitG (sem : DmaSem sig) (src : Memref sig .tc .hbm S8x128 .f32) (dst : Memref sig .tc .vmem S8x128 .f32) :
    Prog (TpuEff nD τ sig (Elt F) Λ₀ .tc) Unit := do
  Prog.lift (.waitDma2 sem src dst (View.wordExact_bits rfl) (View.wordExact_bits rfl))
  pure ⟨⟩

/-- What a slot's loop of waits holds after `k` of them. -/
def drained (s : Fin 3) (q : PosShare TreeShare) (h : S294912x128.Idx → Elt F .f32) (r : Fin 256 → Fin 36864) (k : ℕ) : sProp 𝕄 :=
  if k < 256 then batch (F := F) c s q h r 256 (k * cN)
  else iprop(bigSep Finset.univ (dlv (F := F) c s q h r) ∗ semVal ((c : Thread nD τ), .dma (semS s)) 0)

/-- One wait. -/
theorem wait_step (s : Fin 3) (q : PosShare TreeShare) (h : S294912x128.Idx → Elt F .f32) (r : Fin 256 → Fin 36864) (k : ℕ) (hk : k < 256)
    (sem : DmaSem sig) (src : Memref sig .tc .hbm S8x128 .f32) (dst : Memref sig .tc .vmem S8x128 .f32) (e : sem = semS s)
    (hd : dst.view.dmaCredit = cN) (W : Waits sig Unit) :
    iprop(drained (F := F) c s q h r k ∗ owes (c : Thread nD τ) 0 W)
      ⊢ wp frame (wpE (defs₀ (F := F)) Variants.none c none) Set.univ (waitG (F := F) sem src dst)
        (fun _ => iprop(drained (F := F) c s q h r (k + 1) ∗ ∃ W', owes (c : Thread nD τ) 0 W')) := by
  subst e
  have hN := cN_pos
  show _ ⊢ wp frame (wpE (defs₀ (F := F)) Variants.none c none) Set.univ (.op (.waitDma2 (semS s) src dst (View.wordExact_bits rfl) (View.wordExact_bits rfl)) fun _ => (pure ⟨⟩ : Prog (TpuEff nD τ sig (Elt F) Λ₀ .tc) Unit)) _
  by_cases h1 : k + 1 < 256
  · have hu : k * cN + cN < cN * 256 := by
      have : k * cN + cN = (k + 1) * cN := (Nat.succ_mul k cN).symm
      rw [this, Nat.mul_comm cN]; exact Nat.mul_lt_mul_of_pos_right h1 hN
    rw [show drained (F := F) c s q h r k = batch (F := F) c s q h r 256 (k * cN) from if_pos hk,
      show drained (F := F) c s q h r (k + 1) = batch (F := F) c s q h r 256 ((k + 1) * cN) from if_pos h1]
    refine (Transfers.wp_waitBatch (countersEmb (U := Pipeline.UD sig nD τ)) (defs := defs₀ (F := F)) Variants.none (c : Thread nD τ) none (sem := semS s) (srcw := src) (dstw := dst)
      (hsrc := View.wordExact_bits rfl) (hdst := View.wordExact_bits rfl) (k := fun _ => (pure ⟨⟩ : Prog (TpuEff nD τ sig (Elt F) Λ₀ .tc) Unit)) (D := dlv (F := F) c s q h r)
      (Q := fun _ => iprop(batch (F := F) c s q h r 256 ((k + 1) * cN) ∗ ∃ W', owes (c : Thread nD τ) 0 W')) () hd hu).trans ?_
    iintro Hw
    iapply Hw
    iintro ⟨HB, HW⟩
    sl_step
    isplitl [HB]
    · rw [show (k + 1) * cN = k * cN + cN from Nat.succ_mul k cN]; iexact HB
    iexists _; iexact HW
  · have hu : k * cN + cN = cN * 256 := by
      have : k = 255 := by omega
      subst this; rw [Nat.mul_comm cN]; exact (Nat.succ_mul 255 cN).symm
    rw [show drained (F := F) c s q h r k = batch (F := F) c s q h r 256 (k * cN) from if_pos hk,
      show drained (F := F) c s q h r (k + 1) = iprop(bigSep Finset.univ (dlv (F := F) c s q h r) ∗ semVal ((c : Thread nD τ), .dma (semS s)) 0) from if_neg h1]
    refine (Transfers.wp_waitBatchLast (countersEmb (U := Pipeline.UD sig nD τ)) (defs := defs₀ (F := F)) Variants.none (c : Thread nD τ) none (sem := semS s) (srcw := src) (dstw := dst)
      (hsrc := View.wordExact_bits rfl) (hdst := View.wordExact_bits rfl) (k := fun _ => (pure ⟨⟩ : Prog (TpuEff nD τ sig (Elt F) Λ₀ .tc) Unit)) (D := dlv (F := F) c s q h r)
      (Q := fun _ => iprop(iprop(bigSep Finset.univ (dlv (F := F) c s q h r) ∗ semVal ((c : Thread nD τ), .dma (semS s)) 0) ∗ ∃ W', owes (c : Thread nD τ) 0 W')) () hd hN hu).trans ?_
    iintro Hw
    iapply Hw
    iintro ⟨HD, HS, HW⟩
    sl_step
    isplitl [HD HS]
    · isplitl [HD]; · iexact HD
      iexact HS
    iexists _; iexact HW

/-- The loop that waits for a tile's copies takes a slot in flight to one landed. -/
theorem wait_loop (s : Fin 3) (q : PosShare TreeShare) (h : S294912x128.Idx → Elt F .f32) (r : Fin 256 → Fin 36864)
    (l : Scf.Loop 32) (hok : l.OK) (hl : l.trips = 256)
    (body : Fin l.trips → Unit → Prog (TpuEff nD τ sig (Elt F) Λ₀ .tc) Unit)
    (hb : ∀ (k : Fin l.trips), ∃ sem src dst, body k ⟨⟩ = waitG (F := F) sem src dst ∧ sem = semS s ∧ dst.view.dmaCredit = cN)
    (W : Waits sig Unit)
    {β : Type} (kk : Unit → Prog (TpuEff nD τ sig (Elt F) Λ₀ .tc) β) (Q : β → sProp 𝕄) :
    iprop(flight (F := F) c s q h r ∗ owes (c : Thread nD τ) 0 W)
      ⊢ iprop((iprop(landedSlot (F := F) c s q h r ∗ ∃ W', owes (c : Thread nD τ) 0 W') -∗ wp frame (wpE (defs₀ (F := F)) Variants.none c none) Set.univ (kk ⟨⟩) Q)
        -∗ wp frame (wpE (defs₀ (F := F)) Variants.none c none) Set.univ (Scf.Loop.for l hok ⟨⟩ body >>= kk) Q) := by
  unfold flight landedSlot
  iintro ⟨⟨HB, Hd, Hr⟩, HW⟩ Hk
  iapply (Scf.wp_for_bind frame (wpE (defs₀ (F := F)) Variants.none c none) Set.univ l.lb l.ub l.st hok ⟨⟩ body
    (fun k _ => iprop(drained (F := F) c s q h r k ∗ ∃ W', owes (c : Thread nD τ) 0 W'))
    (fun k _ => by
      have hk : k.val < 256 := hl ▸ k.isLt
      obtain ⟨sem, src, dst, e, e1, e2⟩ := hb k
      rw [show body k _ = waitG (F := F) sem src dst from e]
      iintro ⟨HD, %W', HW⟩
      iapply (wait_step (F := F) c s q h r k.val hk sem src dst e1 e2 W')
      isplitl [HD]; · iexact HD
      iexact HW)) $$ [HB HW]
  · isplitl [HB]
    · rw [show drained (F := F) c s q h r 0 = batch (F := F) c s q h r 256 (0 * cN) from if_pos (by decide), Nat.zero_mul]; iexact HB
    iexists _; iexact HW
  rw [show Scf.trips l.lb l.ub l.st = 256 from hl,
    show drained (F := F) c s q h r 256 = iprop(bigSep Finset.univ (dlv (F := F) c s q h r) ∗ semVal ((c : Thread nD τ), .dma (semS s)) 0) from if_neg (by decide)]
  iintro %_ ⟨⟨HD, HS⟩, HW⟩
  iapply Hk
  isplitr [HW]; swap
  · iexact HW
  rw [slot_blocks (F := F) c s (gath h r), h_split (F := F) c q h r]
  have e : bigSep Finset.univ (dlv (F := F) c s q h r) = iprop(bigSep Finset.univ (blkPt (F := F) c s (gath h r)) ∗ bigSep Finset.univ (tokPt (F := F) c q h r)) :=
    BI.bigSep_sep Finset.univ (blkPt (F := F) c s (gath h r)) (tokPt (F := F) c q h r)
  ihave HD := (Entails.of_eq e) $$ HD
  icases HD with ⟨Hb, Ht⟩
  isplitl [Hb]; · iexact Hb
  isplitl [HS]; · iexact HS
  isplitl [Hd]; · iexact Hd
  isplitl [Ht]; · iexact Ht
  iexact Hr

end Cert.Kernel3Ideal.Moe

end
-- ==== Proof.MoeBody.lean ====
/- The experts' kernel body at one tile: a slot's rows read, the dense layer's two steps over them, the eight strided
stores; and the whole body, over the ring's state before and after. -/
module

public import proofs.«01_k».proof.Proof.MoeSlot
public import Idealize.ShloMosaic.Lib.Exec

@[expose] public section

set_option maxRecDepth 16384

noncomputable section

namespace Cert.Kernel3Ideal.Moe

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (Pipeline.UD sig nD τ) ℕ

/-- The two scalar-memory tables, whole. -/
abbrev tbA : Memref sig .tc .smem S296 .i32 := Memref.whole main_arg1
abbrev htbA : tbA.IsWhole := Memref.isWhole_whole _
abbrev tbB : Memref sig .tc .smem S296 .i32 := Memref.whole main_arg2
abbrev htbB : tbB.IsWhole := Memref.isWhole_whole _

/-- The ring's slot a tile's rows go to. -/
def sl (n : ℕ) : Fin 3 := ⟨n % 3, Nat.mod_lt _ (by decide)⟩
/-- The share of the token array a slot's copies are lent. -/
def qs (s : Fin 3) : PosShare TreeShare := Transfers.shareTokN fullShare s.val
/-- The rows a tile's words name. -/
def rowFn (x : Vec F S1x1x256 .i32) (k : Fin 256) : Fin 36864 :=
  if hk : ((x (ix3 0 0 k) : BitVec 32)).toNat < 36864 then ⟨(x (ix3 0 0 k) : BitVec 32).toNat, hk⟩ else 0
/-- A tile's words all name rows. -/
def InRange (x : Vec F S1x1x256 .i32) : Prop := ∀ k : Fin 256, (x (ix3 0 0 k) : BitVec 32).toNat < 36864

theorem rem_0 : ∀ t : Fin 296, (Scalar.remsi (BitVec.ofNat 32 t.val) 3#32).toNat = (sl t.val).val := by decide +kernel
theorem coord_word : ∀ t : Fin 296, (Scalar.indexCast (BitVec.ofNat 32 t.val)).toNat = t.val := by decide +kernel
theorem rem_1 : ∀ t : Fin 296, (Scalar.remsi (Scalar.addi (BitVec.ofNat 32 t.val) 1#32) 3#32).toNat = (sl (t.val + 1)).val := by decide +kernel
theorem rem_2 : ∀ t : Fin 296, (Scalar.remsi (Scalar.addi (BitVec.ofNat 32 t.val) 2#32) 3#32).toNat = (sl (t.val + 2)).val := by decide +kernel
theorem iv_at : ∀ k : Fin 256, (Scalar.indexCast (Scf.iv 0#32 1#32 k.val)).toNat = k.val := by decide +kernel
theorem iv_8 : ∀ k : Fin 256, (Scalar.muli (Scf.iv 0#32 1#32 k.val) 8#32).toNat = 8 * k.val := by decide +kernel
theorem mul_8 (v : BitVec 32) (hv : v.toNat < 36864) : (Scalar.muli v 8#32).toNat = 8 * v.toNat := by
  show (v * 8#32).toNat = _
  rw [BitVec.toNat_mul]; show v.toNat * 8 % 4294967296 = _; omega
theorem off_inb (v : BitVec 32) (hv : v.toNat < 36864) : ∀ a, (![(Scalar.muli v 8#32).toNat, 0] : Fin 2 → ℕ) a + S8x128.size a ≤ S294912x128.size a := by
  rw [mul_8 v hv]; intro a; fin_cases a
  · show 8 * v.toNat + 8 ≤ 294912; omega
  · show 0 + 128 ≤ 128; omega
theorem dvd_8 (v : BitVec 32) (hv : v.toNat < 36864) : 8 ∣ (Scalar.muli v 8#32).toNat := ⟨v.toNat, mul_8 v hv⟩

theorem row_off (x : Vec F S1x1x256 .i32) (hx : InRange x) (k : Fin 256) :
    (![(Scalar.muli (x (ix3 0 0 k) : BitVec 32) 8#32).toNat, 0] : Fin 2 → ℕ) = ![8 * (rowFn x k).val, 0] := by
  have e : (rowFn x k).val = (x (ix3 0 0 k) : BitVec 32).toNat := by unfold rowFn; rw [dif_pos (hx k)]
  rw [mul_8 _ (hx k), e]

theorem cond1_iff : ∀ t : Fin 296, Scalar.cmpi .ne (Scalar.extui (Scalar.cmpi .eq (BitVec.ofNat 32 t.val) 0#32) : BitVec 32) 0#32 = 1#1 ↔ t.val = 0 := by decide +kernel
theorem cond4_iff : ∀ t : Fin 296, Scalar.cmpi .ne (Scalar.extui (Scalar.cmpi .eq (BitVec.ofNat 32 t.val) 295#32) : BitVec 32) 0#32 = 1#1 ↔ t.val = 295 := by decide +kernel
theorem cond2_iff (v : BitVec 32) : k0_cond2 v = 1#1 ↔ v = 1#32 := by
  by_cases hv : v = 1#32
  · subst hv; decide
  · have e : Scalar.cmpi .eq v 1#32 = 0#1 := by
      have e0 : (v == 1#32) = false := by simpa using hv
      show BitVec.ofBool (v == 1#32) = 0#1; rw [e0]; rfl
    unfold k0_cond2; dsimp only; rw [e]; exact ⟨fun h => absurd h (by decide), fun h => absurd h hv⟩
theorem cond3_iff (v : BitVec 32) : k0_cond3 v = 1#1 ↔ v ≠ 1#32 := by
  by_cases hv : v = 1#32
  · subst hv; decide
  · have e : Scalar.cmpi .eq v 1#32 = 0#1 := by
      have e0 : (v == 1#32) = false := by simpa using hv
      show BitVec.ofBool (v == 1#32) = 0#1; rw [e0]; rfl
    unfold k0_cond3; dsimp only; rw [e]; exact ⟨fun _ => hv, fun _ => by decide⟩

theorem laneR_inb (j : Fin 8) : ∀ a, S256x128.size a = 0 ∨ (![j.val, 0] : Fin 2 → ℕ) a + (![8, 1] : Fin 2 → ℕ) a * (S256x128.size a - 1) < S2048x128.size a := by
  have := j.isLt; intro a; right; fin_cases a
  · show j.val + 8 * 255 < 2048; omega
  · show 0 + 1 * 127 < 128; omega

/-- The lane rows of a slot that piece `j` reads and writes: one of eight rows of each token. -/
def laneR (j : Fin 8) : Rect S2048x128 := ⟨⟨![j.val, 0], S256x128.size, ![8, 1], laneR_inb j⟩, spos_8_1⟩

/-- The tile's rows as the first step reads them, out of a slot's contents. -/
def rowsV (X : Vec F S2048x128 .f32) : FVec F S256x1024 .bf16 :=
  k0_pay11 (View.ld X (laneR 0)) (View.ld X (laneR 1)) (View.ld X (laneR 2)) (View.ld X (laneR 3)) (View.ld X (laneR 4)) (View.ld X (laneR 5)) (View.ld X (laneR 6)) (View.ld X (laneR 7))

/-- The first step's half of the sum and the second step's hidden row, and the down weights the second step reads. -/
def accV (X : Vec F S2048x128 .f32) (x7 x8 : Vec F S1x1024x2816 .bf16) (x9 : Vec F S1x2816x1024 .bf16) : FVec F S256x1024 .f32 :=
  k0_pay12 (rowsV X) (View.ld x7 (Rect.unit ![0, 0, 0] S1x1024x1536.size inb_S1x1024x2816_S1x1024x1536_0_0_0))
    (View.ld x8 (Rect.unit ![0, 0, 0] S1x1024x1536.size inb_S1x1024x2816_S1x1024x1536_0_0_0))
    (View.ld x9 (Rect.unit ![0, 0, 0] S1x1536x1024.size inb_S1x2816x1024_S1x1536x1024_0_0_0))
def hidV (X : Vec F S2048x128 .f32) (x7 x8 : Vec F S1x1024x2816 .bf16) : FVec F S256x1280 .bf16 :=
  k0_pay13 (rowsV X) (View.ld x7 (Rect.unit ![0, 0, 1536] S1x1024x1280.size inb_S1x1024x2816_S1x1024x1280_0_0_1536))
    (View.ld x8 (Rect.unit ![0, 0, 1536] S1x1024x1280.size inb_S1x1024x2816_S1x1024x1280_0_0_1536))
def downV (x9 : Vec F S1x2816x1024 .bf16) : Vec F S1x1280x1024 .bf16 :=
  View.ld x9 (Rect.unit ![0, 1536, 0] S1x1280x1024.size inb_S1x2816x1024_S1x1280x1024_0_1536_0)

/-- The eight stores, last first. -/
def compL (v64 : FVec F S256x1024 .f32) (v80 : FVec F S256x1280 .bf16) (v81 : Vec F S1x1280x1024 .bf16) : List (View.Piece (Elt F) S2048x128 .f32) :=
  [⟨laneR 7, k0_pay9 v64 v80 v81⟩, ⟨laneR 6, k0_pay8 v64 v80 v81⟩, ⟨laneR 5, k0_pay7 v64 v80 v81⟩, ⟨laneR 4, k0_pay6 v64 v80 v81⟩,
    ⟨laneR 3, k0_pay5 v64 v80 v81⟩, ⟨laneR 2, k0_pay4 v64 v80 v81⟩, ⟨laneR 1, k0_pay3 v64 v80 v81⟩, ⟨laneR 0, k0_pay2 v64 v80 v81⟩]

/-- What a tile with tokens leaves in the output's block. -/
def compOut (X : Vec F S2048x128 .f32) (x7 x8 : Vec F S1x1024x2816 .bf16) (x9 : Vec F S1x2816x1024 .bf16) : Vec F S2048x128 .f32 :=
  View.canon (compL (accV X x7 x8 x9) (hidV X x7 x8) (downV x9))

theorem mem_lane (j : Fin 8) (y : S2048x128.Idx) : y ∈ (laneR j).set ↔ (y 0).val % 8 = j.val := by
  have h0 : (y 0).val < 2048 := (y 0).isLt
  have h1 : (y 1).val < 128 := (y 1).isLt
  have hj := j.isLt
  rw [LoadRect.mem_set]
  constructor
  · intro h
    obtain ⟨n, -, e⟩ := h 0
    have e' : (y 0).val = j.val + 8 * n := e
    omega
  · intro h a
    fin_cases a
    · exact ⟨(y 0).val / 8, (by show (y 0).val / 8 < 256; omega), (by show (y 0).val = j.val + 8 * ((y 0).val / 8); omega)⟩
    · exact ⟨(y 1).val, h1, (by show (y 1).val = 0 + 1 * (y 1).val; omega)⟩

theorem comp_cover (v64 : FVec F S256x1024 .f32) (v80 : FVec F S256x1280 .bf16) (v81 : Vec F S1x1280x1024 .bf16) (y : S2048x128.Idx) :
    ∃ p ∈ compL v64 v80 v81, y ∈ p.1.set := by
  have hlt : (y 0).val % 8 < 8 := Nat.mod_lt _ (by decide)
  have key : ∀ j : Fin 8, (y 0).val % 8 = j.val → ∃ p ∈ compL v64 v80 v81, y ∈ p.1.set := by
    intro j hj
    have hm := (mem_lane j y).mpr hj
    unfold compL
    fin_cases j
    · exact ⟨⟨laneR 0, k0_pay2 v64 v80 v81⟩, by simp, hm⟩
    · exact ⟨⟨laneR 1, k0_pay3 v64 v80 v81⟩, by simp, hm⟩
    · exact ⟨⟨laneR 2, k0_pay4 v64 v80 v81⟩, by simp, hm⟩
    · exact ⟨⟨laneR 3, k0_pay5 v64 v80 v81⟩, by simp, hm⟩
    · exact ⟨⟨laneR 4, k0_pay6 v64 v80 v81⟩, by simp, hm⟩
    · exact ⟨⟨laneR 5, k0_pay7 v64 v80 v81⟩, by simp, hm⟩
    · exact ⟨⟨laneR 6, k0_pay8 v64 v80 v81⟩, by simp, hm⟩
    · exact ⟨⟨laneR 7, k0_pay9 v64 v80 v81⟩, by simp, hm⟩
  exact key ⟨_, hlt⟩ rfl

theorem zero_cover (w : FVec F S2048x128 .f32) (y : S2048x128.Idx) :
    ∃ p ∈ ([⟨Rect.unit (s := S2048x128) ![0, 0] S2048x128.size inb_S2048x128_S2048x128_0_0, w⟩] : List (View.Piece (Elt F) S2048x128 .f32)), y ∈ p.1.set :=
  ⟨_, List.mem_singleton.mpr rfl, (LoadRect.mem_set _).mpr fun a => ⟨(y a).val, (y a).isLt, by fin_cases a <;> (show _ = 0 + 1 * _; omega)⟩⟩
/-- What a tile without tokens leaves there. -/
def zeroOut : Vec F S2048x128 .f32 :=
  View.canon [⟨Rect.unit (s := S2048x128) ![0, 0] S2048x128.size inb_S2048x128_S2048x128_0_0, k0_pay10 (F := F)⟩]

section Body

variable (c : Dev nD) (i : grid0.Coords)
  (M3 : Memref sig .tc .smem S1x1x256 .i32) (h3 : M3.IsWhole) (M4 : Memref sig .tc .smem S1x1x256 .i32) (h4 : M4.IsWhole)
  (M5 : Memref sig .tc .smem S1x1x256 .i32) (h5 : M5.IsWhole) (M7 : Memref sig .tc .vmem S1x1024x2816 .bf16) (h7 : M7.IsWhole)
  (M8 : Memref sig .tc .vmem S1x1024x2816 .bf16) (h8 : M8.IsWhole) (M9 : Memref sig .tc .vmem S1x2816x1024 .bf16) (h9 : M9.IsWhole)
  (M10 : Memref sig .tc .vmem S2048x128 .f32) (h10 : M10.IsWhole)

/-- The slot the body reads at a point, as the body slices it. -/
abbrev slotI : Memref sig .tc .vmem S2048x128 .f32 :=
  ((Memref.whole cc0_scratch0).slice (Rect.unit (s := S3x2048x128) (k0_off11 i) S1x2048x128.size (k0_off11_inb i)) (fun _ => rfl)).squeeze S2048x128 squeezes_S1x2048x128_S2048x128

/-- The computing part of the body, before what follows it. -/
def compG {β : Type} (kk : Prog (TpuEff nD τ sig (Elt F) Λ₀ .tc) β) : Prog (TpuEff nD τ sig (Elt F) Λ₀ .tc) β := do
  let v45 : FVec F S256x1024 .bf16 ← k0_part1_skel i tbA htbA tbB htbB M3 h3 M4 h4 M5 h5 (Memref.whole main_v0) (Memref.isWhole_whole _) M7 h7 M8 h8 M9 h9 M10 h10 (Memref.whole cc0_scratch0) (Memref.isWhole_whole _) cc0_scratch1
  let ⟨v64, v80⟩ : Σ' (v64 : FVec F S256x1024 .f32), FVec F S256x1280 .bf16 ← k0_part2_skel i tbA htbA tbB htbB M3 h3 M4 h4 M5 h5 (Memref.whole main_v0) (Memref.isWhole_whole _) M7 h7 M8 h8 M9 h9 M10 h10 (Memref.whole cc0_scratch0) (Memref.isWhole_whole _) cc0_scratch1 v45
  let v81 : Vec F S1x1280x1024 .bf16 ← Prog.lift (.load M9 (Rect.unit (s := S1x2816x1024) ![0, 1536, 0] S1x1280x1024.size inb_S1x2816x1024_S1x1280x1024_0_1536_0).toLoadRect (View.loadsAt_vmem h_S1x1280x1024))
  let v86 : Vec F S256x128 .f32 ← Prog.lift (.load M10 (⟨![0, 0], S256x128.size, ![8, 1], inb_S2048x128_S256x128_0_0_s_8_1⟩ : LoadRect S2048x128) (View.loadsAt_vmem h_S256x128))
  Prog.lift (.store M10 ⟨(⟨![0, 0], S256x128.size, ![8, 1], inb_S2048x128_S256x128_0_0_s_8_1⟩ : LoadRect S2048x128), spos_8_1⟩ (k0_pay2 v64 v80 v81) Finset.univ (View.stores_vmem_bits_univ h_S256x128 rfl) (.inl rfl))
  let v88 : Vec F S256x128 .f32 ← Prog.lift (.load M10 (⟨![1, 0], S256x128.size, ![8, 1], inb_S2048x128_S256x128_1_0_s_8_1⟩ : LoadRect S2048x128) (View.loadsAt_vmem h_S256x128))
  Prog.lift (.store M10 ⟨(⟨![1, 0], S256x128.size, ![8, 1], inb_S2048x128_S256x128_1_0_s_8_1⟩ : LoadRect S2048x128), spos_8_1⟩ (k0_pay3 v64 v80 v81) Finset.univ (View.stores_vmem_bits_univ h_S256x128 rfl) (.inl rfl))
  let v90 : Vec F S256x128 .f32 ← Prog.lift (.load M10 (⟨![2, 0], S256x128.size, ![8, 1], inb_S2048x128_S256x128_2_0_s_8_1⟩ : LoadRect S2048x128) (View.loadsAt_vmem h_S256x128))
  Prog.lift (.store M10 ⟨(⟨![2, 0], S256x128.size, ![8, 1], inb_S2048x128_S256x128_2_0_s_8_1⟩ : LoadRect S2048x128), spos_8_1⟩ (k0_pay4 v64 v80 v81) Finset.univ (View.stores_vmem_bits_univ h_S256x128 rfl) (.inl rfl))
  let v92 : Vec F S256x128 .f32 ← Prog.lift (.load M10 (⟨![3, 0], S256x128.size, ![8, 1], inb_S2048x128_S256x128_3_0_s_8_1⟩ : LoadRect S2048x128) (View.loadsAt_vmem h_S256x128))
  Prog.lift (.store M10 ⟨(⟨![3, 0], S256x128.size, ![8, 1], inb_S2048x128_S256x128_3_0_s_8_1⟩ : LoadRect S2048x128), spos_8_1⟩ (k0_pay5 v64 v80 v81) Finset.univ (View.stores_vmem_bits_univ h_S256x128 rfl) (.inl rfl))
  let v94 : Vec F S256x128 .f32 ← Prog.lift (.load M10 (⟨![4, 0], S256x128.size, ![8, 1], inb_S2048x128_S256x128_4_0_s_8_1⟩ : LoadRect S2048x128) (View.loadsAt_vmem h_S256x128))
  Prog.lift (.store M10 ⟨(⟨![4, 0], S256x128.size, ![8, 1], inb_S2048x128_S256x128_4_0_s_8_1⟩ : LoadRect S2048x128), spos_8_1⟩ (k0_pay6 v64 v80 v81) Finset.univ (View.stores_vmem_bits_univ h_S256x128 rfl) (.inl rfl))
  let v96 : Vec F S256x128 .f32 ← Prog.lift (.load M10 (⟨![5, 0], S256x128.size, ![8, 1], inb_S2048x128_S256x128_5_0_s_8_1⟩ : LoadRect S2048x128) (View.loadsAt_vmem h_S256x128))
  Prog.lift (.store M10 ⟨(⟨![5, 0], S256x128.size, ![8, 1], inb_S2048x128_S256x128_5_0_s_8_1⟩ : LoadRect S2048x128), spos_8_1⟩ (k0_pay7 v64 v80 v81) Finset.univ (View.stores_vmem_bits_univ h_S256x128 rfl) (.inl rfl))
  let v98 : Vec F S256x128 .f32 ← Prog.lift (.load M10 (⟨![6, 0], S256x128.size, ![8, 1], inb_S2048x128_S256x128_6_0_s_8_1⟩ : LoadRect S2048x128) (View.loadsAt_vmem h_S256x128))
  Prog.lift (.store M10 ⟨(⟨![6, 0], S256x128.size, ![8, 1], inb_S2048x128_S256x128_6_0_s_8_1⟩ : LoadRect S2048x128), spos_8_1⟩ (k0_pay8 v64 v80 v81) Finset.univ (View.stores_vmem_bits_univ h_S256x128 rfl) (.inl rfl))
  let v100 : Vec F S256x128 .f32 ← Prog.lift (.load M10 (⟨![7, 0], S256x128.size, ![8, 1], inb_S2048x128_S256x128_7_0_s_8_1⟩ : LoadRect S2048x128) (View.loadsAt_vmem h_S256x128))
  Prog.lift (.store M10 ⟨(⟨![7, 0], S256x128.size, ![8, 1], inb_S2048x128_S256x128_7_0_s_8_1⟩ : LoadRect S2048x128), spos_8_1⟩ (k0_pay9 v64 v80 v81) Finset.univ (View.stores_vmem_bits_univ h_S256x128 rfl) (.inl rfl))
  kk

set_option maxHeartbeats 1000000 in
/-- The computing part, run: the slot and the weights as they were, the output's block at what the tile leaves. -/
theorem comp_run (f : S3x2048x128.Idx → Elt F .f32) (x7 x8 : Vec F S1x1024x2816 .bf16) (x9 : Vec F S1x2816x1024 .bf16)
    {β : Type} (kk : Prog (TpuEff nD τ sig (Elt F) Λ₀ .tc) β) (Q : β → sProp 𝕄) :
    iprop(((slotI i).view.loc (c : Thread nD τ) ↦[(slotI i).view.set]{fullShare} f)
      ∗ owns (c : Thread nD τ) M7 fullShare x7 ∗ owns (c : Thread nD τ) M8 fullShare x8 ∗ owns (c : Thread nD τ) M9 fullShare x9
      ∗ (∃ d, owns (c : Thread nD τ) M10 fullShare d))
      ⊢ iprop((iprop(((slotI i).view.loc (c : Thread nD τ) ↦[(slotI i).view.set]{fullShare} f)
          ∗ owns (c : Thread nD τ) M7 fullShare x7 ∗ owns (c : Thread nD τ) M8 fullShare x8 ∗ owns (c : Thread nD τ) M9 fullShare x9
          ∗ owns (c : Thread nD τ) M10 fullShare (compOut ((slotI i).view.read (Elt F) f) x7 x8 x9))
        -∗ wp frame (wpE (defs₀ (F := F)) Variants.none c none) Set.univ kk Q)
      -∗ wp frame (wpE (defs₀ (F := F)) Variants.none c none) Set.univ
          (compG (F := F) i M3 h3 M4 h4 M5 h5 M7 h7 M8 h8 M9 h9 M10 h10 kk) Q) := by
  unfold compG k0_part1_skel k0_part2_skel
  unfold owns
  iintro ⟨HS, ⟨%f7, %e7, H7⟩, ⟨%f8, %e8, H8⟩, ⟨%f9, %e9, H9⟩, ⟨%d, %f10, -, H10⟩⟩ Hk
  subst e7 e8 e9
  sl_exec
  iapply Hk
  isplitl [HS]; · iexact HS
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ (compL _ _ _) (comp_cover _ _ _)

theorem t1_step (x3 : Vec F S1x1x256 .i32) (hx3 : InRange x3) (h : S294912x128.Idx → Elt F .f32) (hc : k0_cond1 i = 1#1) (k : Fin k0_t1_loop.trips) (g : S3x2048x128.Idx → Elt F .f32) :
    iprop(owns (c : Thread nD τ) M3 fullShare x3 ∗ batch (F := F) c (0 : Fin 3) (qs (0 : Fin 3)) h (rowFn x3) k.val 0 ∗ blkPt (F := F) c (0 : Fin 3) g ⟨k.val, k.isLt⟩ ∗ tokPt (F := F) c (qs (0 : Fin 3)) h (rowFn x3) ⟨k.val, k.isLt⟩)
      ⊢ wp frame (wpE (defs₀ (F := F)) Variants.none c none) Set.univ (k0_t1_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 hc k ⟨⟩)
        (fun _ => iprop(owns (c : Thread nD τ) M3 fullShare x3 ∗ batch (F := F) c (0 : Fin 3) (qs (0 : Fin 3)) h (rowFn x3) (k.val + 1) 0)) := by
  refine issue_step (F := F) c M3 h3 x3 (0 : Fin 3) (qs (0 : Fin 3)) h (rowFn x3) g ⟨k.val, k.isLt⟩ (k0_chk1 i) (k0_chk1.dec i) _ _ _ _ _ _ _ _ k0_off4 (fun v hw => k0_off4_inb i v hw hc) (congrArg (fun n => ![0, 0, n]) (iv_at ⟨k.val, k.isLt⟩)) ?_ ?_ (congrArg (fun n => ![n, 0]) (iv_8 ⟨k.val, k.isLt⟩)) (row_off x3 hx3 ⟨k.val, k.isLt⟩) ⟨fun _ => dvd_8 _ (hx3 _), fun _ => off_inb _ (hx3 _)⟩
  · rfl
  · rfl

theorem t2_step (x4 : Vec F S1x1x256 .i32) (hx4 : InRange x4) (h : S294912x128.Idx → Elt F .f32) (hc : k0_cond1 i = 1#1) (k : Fin k0_t2_loop.trips) (g : S3x2048x128.Idx → Elt F .f32) :
    iprop(owns (c : Thread nD τ) M4 fullShare x4 ∗ batch (F := F) c (1 : Fin 3) (qs (1 : Fin 3)) h (rowFn x4) k.val 0 ∗ blkPt (F := F) c (1 : Fin 3) g ⟨k.val, k.isLt⟩ ∗ tokPt (F := F) c (qs (1 : Fin 3)) h (rowFn x4) ⟨k.val, k.isLt⟩)
      ⊢ wp frame (wpE (defs₀ (F := F)) Variants.none c none) Set.univ (k0_t2_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 hc k ⟨⟩)
        (fun _ => iprop(owns (c : Thread nD τ) M4 fullShare x4 ∗ batch (F := F) c (1 : Fin 3) (qs (1 : Fin 3)) h (rowFn x4) (k.val + 1) 0)) := by
  refine issue_step (F := F) c M4 h4 x4 (1 : Fin 3) (qs (1 : Fin 3)) h (rowFn x4) g ⟨k.val, k.isLt⟩ (k0_chk2 i) (k0_chk2.dec i) _ _ _ _ _ _ _ _ k0_off7 (fun v hw => k0_off7_inb i v hw hc) (congrArg (fun n => ![0, 0, n]) (iv_at ⟨k.val, k.isLt⟩)) ?_ ?_ (congrArg (fun n => ![n, 0]) (iv_8 ⟨k.val, k.isLt⟩)) (row_off x4 hx4 ⟨k.val, k.isLt⟩) ⟨fun _ => dvd_8 _ (hx4 _), fun _ => off_inb _ (hx4 _)⟩
  · rfl
  · rfl

theorem t4_step (x5 : Vec F S1x1x256 .i32) (hx5 : InRange x5) (h : S294912x128.Idx → Elt F .f32) (v1 : Elt F .i32) (hc : k0_cond2 v1 = 1#1) (k : Fin k0_t4_loop.trips) (g : S3x2048x128.Idx → Elt F .f32) :
    iprop(owns (c : Thread nD τ) M5 fullShare x5 ∗ batch (F := F) c (sl ((i 0).val + 2)) (qs (sl ((i 0).val + 2))) h (rowFn x5) k.val 0 ∗ blkPt (F := F) c (sl ((i 0).val + 2)) g ⟨k.val, k.isLt⟩ ∗ tokPt (F := F) c (qs (sl ((i 0).val + 2))) h (rowFn x5) ⟨k.val, k.isLt⟩)
      ⊢ wp frame (wpE (defs₀ (F := F)) Variants.none c none) Set.univ (k0_t4_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 v1 hc k ⟨⟩)
        (fun _ => iprop(owns (c : Thread nD τ) M5 fullShare x5 ∗ batch (F := F) c (sl ((i 0).val + 2)) (qs (sl ((i 0).val + 2))) h (rowFn x5) (k.val + 1) 0)) := by
  refine issue_step (F := F) c M5 h5 x5 (sl ((i 0).val + 2)) (qs (sl ((i 0).val + 2))) h (rowFn x5) g ⟨k.val, k.isLt⟩ (k0_chk3 v1) (k0_chk3.dec v1) _ _ _ _ _ _ _ _ k0_off16 (fun v hw => k0_off16_inb v1 v hw hc) (congrArg (fun n => ![0, 0, n]) (iv_at ⟨k.val, k.isLt⟩)) ?_ ?_ (congrArg (fun n => ![n, 0]) (iv_8 ⟨k.val, k.isLt⟩)) (row_off x5 hx5 ⟨k.val, k.isLt⟩) ⟨fun _ => dvd_8 _ (hx5 _), fun _ => off_inb _ (hx5 _)⟩
  · exact congrArg (fun n => ![n]) (rem_2 (i 0))
  · exact congrArg (fun n => ![n, 0, 0]) (rem_2 (i 0))

theorem t5_step (x5 : Vec F S1x1x256 .i32) (hx5 : InRange x5) (h : S294912x128.Idx → Elt F .f32) (v1 : Elt F .i32) (hc : k0_cond3 v1 = 1#1) (k : Fin k0_t5_loop.trips) (g : S3x2048x128.Idx → Elt F .f32) :
    iprop(owns (c : Thread nD τ) M5 fullShare x5 ∗ batch (F := F) c (sl ((i 0).val + 2)) (qs (sl ((i 0).val + 2))) h (rowFn x5) k.val 0 ∗ blkPt (F := F) c (sl ((i 0).val + 2)) g ⟨k.val, k.isLt⟩ ∗ tokPt (F := F) c (qs (sl ((i 0).val + 2))) h (rowFn x5) ⟨k.val, k.isLt⟩)
      ⊢ wp frame (wpE (defs₀ (F := F)) Variants.none c none) Set.univ (k0_t5_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 v1 hc k ⟨⟩)
        (fun _ => iprop(owns (c : Thread nD τ) M5 fullShare x5 ∗ batch (F := F) c (sl ((i 0).val + 2)) (qs (sl ((i 0).val + 2))) h (rowFn x5) (k.val + 1) 0)) := by
  refine issue_step (F := F) c M5 h5 x5 (sl ((i 0).val + 2)) (qs (sl ((i 0).val + 2))) h (rowFn x5) g ⟨k.val, k.isLt⟩ (k0_chk4 v1) (k0_chk4.dec v1) _ _ _ _ _ _ _ _ k0_off21 (fun v hw => k0_off21_inb v1 v hw hc) (congrArg (fun n => ![0, 0, n]) (iv_at ⟨k.val, k.isLt⟩)) ?_ ?_ (congrArg (fun n => ![n, 0]) (iv_8 ⟨k.val, k.isLt⟩)) (row_off x5 hx5 ⟨k.val, k.isLt⟩) ⟨fun _ => dvd_8 _ (hx5 _), fun _ => off_inb _ (hx5 _)⟩
  · exact congrArg (fun n => ![n]) (rem_2 (i 0))
  · exact congrArg (fun n => ![n, 0, 0]) (rem_2 (i 0))

theorem t3_step  (k : Fin k0_t3_loop.trips) :
    ∃ sem src dst, k0_t3_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1  k ⟨⟩ = waitG (F := F) sem src dst ∧ sem = semS (sl (i 0).val) ∧ dst.view.dmaCredit = cN :=
  ⟨_, _, _, rfl, semS_of (sl (i 0).val) _ _ (congrArg (fun n => ![n]) (rem_0 (i 0))), rfl⟩

theorem t6_step (hc : k0_cond4 i = 1#1) (k : Fin k0_t6_loop.trips) :
    ∃ sem src dst, k0_t6_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 hc k ⟨⟩ = waitG (F := F) sem src dst ∧ sem = semS (sl ((i 0).val + 1)) ∧ dst.view.dmaCredit = cN :=
  ⟨_, _, _, rfl, semS_of (sl ((i 0).val + 1)) _ _ (congrArg (fun n => ![n]) (rem_1 (i 0))), rfl⟩

theorem t7_step (hc : k0_cond4 i = 1#1) (k : Fin k0_t7_loop.trips) :
    ∃ sem src dst, k0_t7_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 hc k ⟨⟩ = waitG (F := F) sem src dst ∧ sem = semS (sl ((i 0).val + 2)) ∧ dst.view.dmaCredit = cN :=
  ⟨_, _, _, rfl, semS_of (sl ((i 0).val + 2)) _ _ (congrArg (fun n => ![n]) (rem_2 (i 0))), rfl⟩

/-- The last part of the body: at the last tile, the waits for the two slots nothing will read. -/
def lastG : Prog (TpuEff nD τ sig (Elt F) Λ₀ .tc) PUnit :=
  if hc : k0_cond4 i = 1#1 then
    Scf.Loop.for k0_t6_loop (k0_t6_ok i hc) ⟨⟩ (k0_t6_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 hc) >>= fun _ =>
      Scf.Loop.for k0_t7_loop (k0_t7_ok i hc) ⟨⟩ (k0_t7_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 hc) >>= fun _ => pure ⟨⟩
  else pure ⟨⟩

/-- The part for a tile without tokens: zeros stored, then a later tile's copies started. -/
def zeroG (v1 : Elt F .i32) {β : Type} (kk : Prog (TpuEff nD τ sig (Elt F) Λ₀ .tc) β) : Prog (TpuEff nD τ sig (Elt F) Λ₀ .tc) β := do
  let v21 : Vec F S2048x128 .f32 ← Prog.lift (.load M10 (Rect.unit (s := S2048x128) ![0, 0] S2048x128.size inb_S2048x128_S2048x128_0_0).toLoadRect (View.loadsAt_vmem h_S2048x128))
  Prog.lift (.store M10 (Rect.unit (s := S2048x128) ![0, 0] S2048x128.size inb_S2048x128_S2048x128_0_0) (k0_pay10 (F := F)) Finset.univ (View.stores_vmem_bits_univ h_S2048x128 rfl) (.inl rfl))
  kk

theorem zero_run (v1 : Elt F .i32) {β : Type} (kk : Prog (TpuEff nD τ sig (Elt F) Λ₀ .tc) β) (Q : β → sProp 𝕄) :
    iprop(∃ d, owns (c : Thread nD τ) M10 fullShare d)
      ⊢ iprop((owns (c : Thread nD τ) M10 fullShare (zeroOut (F := F)) -∗ wp frame (wpE (defs₀ (F := F)) Variants.none c none) Set.univ kk Q)
      -∗ wp frame (wpE (defs₀ (F := F)) Variants.none c none) Set.univ (zeroG (F := F) M10 v1 kk) Q) := by
  unfold zeroG
  unfold owns
  iintro ⟨%d, %f10, -, H10⟩ Hk
  sl_exec
  iapply Hk
  iexists _; isplitr
  swap; · iexact H10
  ipureintro
  exact View.read_writes_eq_canon _ _ _ (zero_cover _)

/-- What follows the computing part. -/
def afterG (v1 : Elt F .i32) : Prog (TpuEff nD τ sig (Elt F) Λ₀ .tc) PUnit :=
  if hc : k0_cond3 v1 = 1#1 then
    zeroG (F := F) M10 v1 (Scf.Loop.for k0_t5_loop k0_t5_ok ⟨⟩ (k0_t5_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 v1 hc) >>= fun _ => lastG (F := F) i M3 h3 M4 h4 M5 h5 M7 h7 M8 h8 M9 h9 M10 h10)
  else lastG (F := F) i M3 h3 M4 h4 M5 h5 M7 h7 M8 h8 M9 h9 M10 h10

/-- What follows the first part of the body. -/
def restG (v1 : Elt F .i32) : Prog (TpuEff nD τ sig (Elt F) Λ₀ .tc) PUnit :=
  Scf.Loop.for k0_t3_loop k0_t3_ok ⟨⟩ (k0_t3_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1) >>= fun _ =>
    if hc : k0_cond2 v1 = 1#1 then
      compG (F := F) i M3 h3 M4 h4 M5 h5 M7 h7 M8 h8 M9 h9 M10 h10 (Scf.Loop.for k0_t4_loop k0_t4_ok ⟨⟩ (k0_t4_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 v1 hc) >>= fun _ => afterG (F := F) i M3 h3 M4 h4 M5 h5 M7 h7 M8 h8 M9 h9 M10 h10 v1)
    else afterG (F := F) i M3 h3 M4 h4 M5 h5 M7 h7 M8 h8 M9 h9 M10 h10 v1

/-- The body, cut into its parts. -/
def wholeG : Prog (TpuEff nD τ sig (Elt F) Λ₀ .tc) PUnit :=
  smemLoad tbB (Rect.unit (s := S296) (k0_off1 i) S1.size (k0_off1_inb i)) numel1_S1 rfl >>= fun v1 =>
    if hc : k0_cond1 i = 1#1 then
      Scf.Loop.for k0_t1_loop (k0_t1_ok i hc) ⟨⟩ (k0_t1_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 hc) >>= fun _ =>
        Scf.Loop.for k0_t2_loop (k0_t2_ok i hc) ⟨⟩ (k0_t2_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 hc) >>= fun _ => restG (F := F) i M3 h3 M4 h4 M5 h5 M7 h7 M8 h8 M9 h9 M10 h10 v1
    else restG (F := F) i M3 h3 M4 h4 M5 h5 M7 h7 M8 h8 M9 h9 M10 h10 v1

theorem body_eq : cc0_moe_ffn (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 = wholeG (F := F) i M3 h3 M4 h4 M5 h5 M7 h7 M8 h8 M9 h9 M10 h10 := rfl

/-- What a slot's gathered rows read as, whichever slot holds them. -/
def gathV (h : S294912x128.Idx → Elt F .f32) (r : Fin 256 → Fin 36864) : Vec F S2048x128 .f32 := fun y => gath h r (ix3 0 (y 0) (y 1))

theorem slot_pt_of (s : Fin 3) (off : Fin 3 → ℕ) (inb : ∀ a, off a + S1x2048x128.size a ≤ S3x2048x128.size a) (ho : off = ![s.val, 0, 0]) (f : S3x2048x128.Idx → Elt F .f32) :
    ((((Memref.whole cc0_scratch0).slice (Rect.unit (s := S3x2048x128) off S1x2048x128.size inb) (fun _ => rfl)).squeeze S2048x128 squeezes_S1x2048x128_S2048x128).view.loc (c : Thread nD τ)
      ↦[(((Memref.whole cc0_scratch0).slice (Rect.unit (s := S3x2048x128) off S1x2048x128.size inb) (fun _ => rfl)).squeeze S2048x128 squeezes_S1x2048x128_S2048x128).view.set]{fullShare} f : sProp 𝕄)
      = slotPt (F := F) c s f := by
  subst ho; rfl

theorem slot_read_of (s : Fin 3) (off : Fin 3 → ℕ) (inb : ∀ a, off a + S1x2048x128.size a ≤ S3x2048x128.size a) (ho : off = ![s.val, 0, 0])
    (h : S294912x128.Idx → Elt F .f32) (r : Fin 256 → Fin 36864) :
    (((Memref.whole cc0_scratch0).slice (Rect.unit (s := S3x2048x128) off S1x2048x128.size inb) (fun _ => rfl)).squeeze S2048x128 squeezes_S1x2048x128_S2048x128).view.read (Elt F) (gath h r)
      = gathV h r := by
  subst ho
  funext y
  have hy : y = (ix2 (y 0) (y 1) : S2048x128.Idx) := by funext a; fin_cases a <;> rfl
  have e := slot_emb s (y 0) (y 1)
  show gath h r (slotE s y) = _
  rw [hy, e]; rfl

/-- The computing part at a slot whose rows have landed. -/
theorem comp_step (h : S294912x128.Idx → Elt F .f32) (r : Fin 256 → Fin 36864) (x7 x8 : Vec F S1x1024x2816 .bf16) (x9 : Vec F S1x2816x1024 .bf16)
    {β : Type} (kk : Prog (TpuEff nD τ sig (Elt F) Λ₀ .tc) β) (Q : β → sProp 𝕄) :
    iprop(slotPt (F := F) c (sl (i 0).val) (gath h r)
      ∗ owns (c : Thread nD τ) M7 fullShare x7 ∗ owns (c : Thread nD τ) M8 fullShare x8 ∗ owns (c : Thread nD τ) M9 fullShare x9
      ∗ (∃ d, owns (c : Thread nD τ) M10 fullShare d))
      ⊢ iprop((iprop(slotPt (F := F) c (sl (i 0).val) (gath h r)
          ∗ owns (c : Thread nD τ) M7 fullShare x7 ∗ owns (c : Thread nD τ) M8 fullShare x8 ∗ owns (c : Thread nD τ) M9 fullShare x9
          ∗ owns (c : Thread nD τ) M10 fullShare (compOut (gathV h r) x7 x8 x9))
        -∗ wp frame (wpE (defs₀ (F := F)) Variants.none c none) Set.univ kk Q)
      -∗ wp frame (wpE (defs₀ (F := F)) Variants.none c none) Set.univ (compG (F := F) i M3 h3 M4 h4 M5 h5 M7 h7 M8 h8 M9 h9 M10 h10 kk) Q) := by
  have key := comp_run (F := F) c i M3 h3 M4 h4 M5 h5 M7 h7 M8 h8 M9 h9 M10 h10 (gath h r) x7 x8 x9 kk Q
  have ho : k0_off11 i = ![(sl (i 0).val).val, 0, 0] := congrArg (fun n => ![n, 0, 0]) (rem_0 (i 0))
  have e1 := slot_pt_of (F := F) c (sl (i 0).val) (k0_off11 i) (k0_off11_inb i) ho (gath h r)
  have e2 := slot_read_of (F := F) (sl (i 0).val) (k0_off11 i) (k0_off11_inb i) ho h r
  rw [e1, e2] at key
  exact key

/-- The two slots a tile leaves for the next ones: in flight, and free again once the last tile has waited for them. -/
def ring2 (h : S294912x128.Idx → Elt F .f32) (x4 x5 : Vec F S1x1x256 .i32) : sProp 𝕄 :=
  if (i 0).val = 295 then
    iprop(free (F := F) c (sl ((i 0).val + 1)) (qs (sl ((i 0).val + 1))) h ∗ free (F := F) c (sl ((i 0).val + 2)) (qs (sl ((i 0).val + 2))) h)
  else
    iprop(flight (F := F) c (sl ((i 0).val + 1)) (qs (sl ((i 0).val + 1))) h (rowFn x4) ∗ flight (F := F) c (sl ((i 0).val + 2)) (qs (sl ((i 0).val + 2))) h (rowFn x5))

theorem last_run (h : S294912x128.Idx → Elt F .f32) (x4 x5 : Vec F S1x1x256 .i32) (Q : PUnit → sProp 𝕄) (W : Waits sig Unit) :
    iprop(flight (F := F) c (sl ((i 0).val + 1)) (qs (sl ((i 0).val + 1))) h (rowFn x4) ∗ flight (F := F) c (sl ((i 0).val + 2)) (qs (sl ((i 0).val + 2))) h (rowFn x5)
      ∗ owes (c : Thread nD τ) 0 W)
      ⊢ iprop((iprop(ring2 (F := F) c i h x4 x5 ∗ ∃ W', owes (c : Thread nD τ) 0 W') -∗ Q ⟨⟩)
      -∗ wp frame (wpE (defs₀ (F := F)) Variants.none c none) Set.univ (lastG (F := F) i M3 h3 M4 h4 M5 h5 M7 h7 M8 h8 M9 h9 M10 h10) Q) := by
  unfold lastG ring2
  by_cases hc : k0_cond4 i = 1#1
  · rw [dif_pos hc, if_pos ((cond4_iff (i 0)).mp hc)]
    iintro ⟨H1, H2, HW⟩ Hk
    iapply (wait_loop (F := F) c (sl ((i 0).val + 1)) (qs (sl ((i 0).val + 1))) h (rowFn x4) k0_t6_loop (k0_t6_ok i hc) rfl _ (t6_step (F := F) i M3 h3 M4 h4 M5 h5 M7 h7 M8 h8 M9 h9 M10 h10 hc) W _ _) $$ [H1 HW]
    · isplitl [H1]; · iexact H1
      iexact HW
    iintro ⟨H1, %W1, HW⟩
    iapply (wait_loop (F := F) c (sl ((i 0).val + 2)) (qs (sl ((i 0).val + 2))) h (rowFn x5) k0_t7_loop (k0_t7_ok i hc) rfl _ (t7_step (F := F) i M3 h3 M4 h4 M5 h5 M7 h7 M8 h8 M9 h9 M10 h10 hc) W1 _ _) $$ [H2 HW]
    · isplitl [H2]; · iexact H2
      iexact HW
    iintro ⟨H2, HW⟩
    rw [wp_pure]
    imodintro
    iapply Hk
    isplitr [HW]; swap
    · iexact HW
    isplitl [H1]
    · iapply (landedSlot_free (F := F) c _ _ _ _) $$ H1
    iapply (landedSlot_free (F := F) c _ _ _ _) $$ H2
  · rw [dif_neg hc, if_neg (fun he => hc ((cond4_iff (i 0)).mpr he))]
    iintro ⟨H1, H2, HW⟩ Hk
    rw [wp_pure]
    imodintro
    iapply Hk
    isplitr [HW]
    · isplitl [H1]; · iexact H1
      iexact H2
    iexists _; iexact HW

/-- What a tile leaves in the output's block, by its validity word. -/
def tileOut (v1 : BitVec 32) (X : Vec F S2048x128 .f32) (x7 x8 : Vec F S1x1024x2816 .bf16) (x9 : Vec F S1x2816x1024 .bf16) : Vec F S2048x128 .f32 :=
  if v1 = 1#32 then compOut X x7 x8 x9 else zeroOut

theorem rest_run (h : S294912x128.Idx → Elt F .f32) (r3 : Fin 256 → Fin 36864) (x4 x5 : Vec F S1x1x256 .i32) (hx5 : InRange x5)
    (x7 x8 : Vec F S1x1024x2816 .bf16) (x9 : Vec F S1x2816x1024 .bf16) (v1 : Elt F .i32) (Q : PUnit → sProp 𝕄) (W : Waits sig Unit) :
    iprop(flight (F := F) c (sl (i 0).val) (qs (sl (i 0).val)) h r3
      ∗ flight (F := F) c (sl ((i 0).val + 1)) (qs (sl ((i 0).val + 1))) h (rowFn x4)
      ∗ free (F := F) c (sl ((i 0).val + 2)) (qs (sl ((i 0).val + 2))) h
      ∗ owns (c : Thread nD τ) M5 fullShare x5
      ∗ owns (c : Thread nD τ) M7 fullShare x7 ∗ owns (c : Thread nD τ) M8 fullShare x8 ∗ owns (c : Thread nD τ) M9 fullShare x9
      ∗ (∃ d, owns (c : Thread nD τ) M10 fullShare d) ∗ owes (c : Thread nD τ) 0 W)
      ⊢ iprop((iprop(free (F := F) c (sl (i 0).val) (qs (sl (i 0).val)) h ∗ ring2 (F := F) c i h x4 x5
          ∗ owns (c : Thread nD τ) M5 fullShare x5
          ∗ owns (c : Thread nD τ) M7 fullShare x7 ∗ owns (c : Thread nD τ) M8 fullShare x8 ∗ owns (c : Thread nD τ) M9 fullShare x9
          ∗ owns (c : Thread nD τ) M10 fullShare (tileOut v1 (gathV h r3) x7 x8 x9) ∗ ∃ W', owes (c : Thread nD τ) 0 W') -∗ Q ⟨⟩)
      -∗ wp frame (wpE (defs₀ (F := F)) Variants.none c none) Set.univ (restG (F := F) i M3 h3 M4 h4 M5 h5 M7 h7 M8 h8 M9 h9 M10 h10 v1) Q) := by
  unfold restG tileOut
  iintro ⟨H0, H1, H2, H5, H7, H8, H9, H10, HW⟩ Hk
  iapply (wait_loop (F := F) c (sl (i 0).val) (qs (sl (i 0).val)) h r3 k0_t3_loop k0_t3_ok rfl _ (t3_step (F := F) i M3 h3 M4 h4 M5 h5 M7 h7 M8 h8 M9 h9 M10 h10) W _ _) $$ [H0 HW]
  · isplitl [H0]; · iexact H0
    iexact HW
  iintro ⟨H0, %W1, HW⟩
  by_cases hv : v1 = 1#32
  · have hc2 : k0_cond2 v1 = 1#1 := (cond2_iff v1).mpr hv
    have hc3 : ¬ k0_cond3 v1 = 1#1 := fun he => (cond3_iff v1).mp he hv
    rw [dif_pos hc2, if_pos hv]
    unfold landedSlot
    icases H0 with ⟨HS, Hsem, Hh⟩
    iapply (comp_step (F := F) c i M3 h3 M4 h4 M5 h5 M7 h7 M8 h8 M9 h9 M10 h10 h r3 x7 x8 x9 _ _) $$ [HS H7 H8 H9 H10]
    · isplitl [HS]; · iexact HS
      isplitl [H7]; · iexact H7
      isplitl [H8]; · iexact H8
      isplitl [H9]; · iexact H9
      iexact H10
    iintro ⟨HS, H7, H8, H9, H10⟩
    iapply (issue_loop (F := F) c M5 x5 (sl ((i 0).val + 2)) (qs (sl ((i 0).val + 2))) h (rowFn x5) k0_t4_loop k0_t4_ok rfl _ (t4_step (F := F) c i M3 h3 M4 h4 M5 h5 M7 h7 M8 h8 M9 h9 M10 h10 x5 hx5 h v1 hc2) _ _) $$ [H5 H2]
    · isplitl [H5]; · iexact H5
      iexact H2
    iintro ⟨H5, H2⟩
    unfold afterG
    rw [dif_neg hc3]
    iapply (last_run (F := F) c i M3 h3 M4 h4 M5 h5 M7 h7 M8 h8 M9 h9 M10 h10 h x4 x5 Q W1) $$ [H1 H2 HW]
    · isplitl [H1]; · iexact H1
      isplitl [H2]; · iexact H2
      iexact HW
    iintro ⟨HR, HW⟩
    iapply Hk
    isplitl [HS Hsem Hh]
    · unfold free
      isplitl [HS]; · iexists _; iexact HS
      isplitl [Hsem]; · iexact Hsem
      iexact Hh
    isplitl [HR]; · iexact HR
    isplitl [H5]; · iexact H5
    isplitl [H7]; · iexact H7
    isplitl [H8]; · iexact H8
    isplitl [H9]; · iexact H9
    isplitl [H10]; · iexact H10
    iexact HW
  · have hc2 : ¬ k0_cond2 v1 = 1#1 := fun he => hv ((cond2_iff v1).mp he)
    have hc3 : k0_cond3 v1 = 1#1 := (cond3_iff v1).mpr hv
    rw [dif_neg hc2, if_neg hv]
    unfold afterG
    rw [dif_pos hc3]
    iapply (zero_run (F := F) c M10 v1 _ _) $$ H10
    iintro H10
    iapply (issue_loop (F := F) c M5 x5 (sl ((i 0).val + 2)) (qs (sl ((i 0).val + 2))) h (rowFn x5) k0_t5_loop k0_t5_ok rfl _ (t5_step (F := F) c i M3 h3 M4 h4 M5 h5 M7 h7 M8 h8 M9 h9 M10 h10 x5 hx5 h v1 hc3) _ _) $$ [H5 H2]
    · isplitl [H5]; · iexact H5
      iexact H2
    iintro ⟨H5, H2⟩
    iapply (last_run (F := F) c i M3 h3 M4 h4 M5 h5 M7 h7 M8 h8 M9 h9 M10 h10 h x4 x5 Q W1) $$ [H1 H2 HW]
    · isplitl [H1]; · iexact H1
      isplitl [H2]; · iexact H2
      iexact HW
    iintro ⟨HR, HW⟩
    iapply Hk
    isplitl [H0]
    · iapply (landedSlot_free (F := F) c _ _ _ _) $$ H0
    isplitl [HR]; · iexact HR
    isplitl [H5]; · iexact H5
    isplitl [H7]; · iexact H7
    isplitl [H8]; · iexact H8
    isplitl [H9]; · iexact H9
    isplitl [H10]; · iexact H10
    iexact HW

/-- The ring before a tile: all free at the first, then the tile's own rows and the next tile's in flight and the third slot free. -/
def ringPre (h : S294912x128.Idx → Elt F .f32) (x3 x4 : Vec F S1x1x256 .i32) : sProp 𝕄 :=
  if (i 0).val = 0 then
    iprop(free (F := F) c (sl (i 0).val) (qs (sl (i 0).val)) h ∗ free (F := F) c (sl ((i 0).val + 1)) (qs (sl ((i 0).val + 1))) h)
  else
    iprop(flight (F := F) c (sl (i 0).val) (qs (sl (i 0).val)) h (rowFn x3) ∗ flight (F := F) c (sl ((i 0).val + 1)) (qs (sl ((i 0).val + 1))) h (rowFn x4))

/-- The first tile's own start of the first two slots. -/
theorem first_run (s0 s1 : Fin 3) (e0 : s0 = 0) (e1 : s1 = 1) (hc : k0_cond1 i = 1#1) (h : S294912x128.Idx → Elt F .f32)
    (x3 x4 : Vec F S1x1x256 .i32) (hx3 : InRange x3) (hx4 : InRange x4)
    (kk : Prog (TpuEff nD τ sig (Elt F) Λ₀ .tc) PUnit) (Q : PUnit → sProp 𝕄) :
    iprop(free (F := F) c s0 (qs s0) h ∗ free (F := F) c s1 (qs s1) h ∗ owns (c : Thread nD τ) M3 fullShare x3 ∗ owns (c : Thread nD τ) M4 fullShare x4)
      ⊢ iprop((iprop(flight (F := F) c s0 (qs s0) h (rowFn x3) ∗ flight (F := F) c s1 (qs s1) h (rowFn x4)
          ∗ owns (c : Thread nD τ) M3 fullShare x3 ∗ owns (c : Thread nD τ) M4 fullShare x4) -∗ wp frame (wpE (defs₀ (F := F)) Variants.none c none) Set.univ kk Q)
      -∗ wp frame (wpE (defs₀ (F := F)) Variants.none c none) Set.univ (Scf.Loop.for k0_t1_loop (k0_t1_ok i hc) ⟨⟩ (k0_t1_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 hc) >>= fun _ =>
        Scf.Loop.for k0_t2_loop (k0_t2_ok i hc) ⟨⟩ (k0_t2_body (F := F) i tbA htbA tbB htbB M3 h3 M4 h4 M5 h5 (Memref.whole main_v0) (Memref.isWhole_whole _) M7 h7 M8 h8 M9 h9 M10 h10 (Memref.whole cc0_scratch0) (Memref.isWhole_whole _) cc0_scratch1 hc) >>= fun _ => kk) Q) := by
  subst e0 e1
  iintro ⟨H0, H1, H3, H4⟩ Hk
  iapply (issue_loop (F := F) c M3 x3 0 (qs 0) h (rowFn x3) k0_t1_loop (k0_t1_ok i hc) rfl _ (t1_step (F := F) c i M3 h3 M4 h4 M5 h5 M7 h7 M8 h8 M9 h9 M10 h10 x3 hx3 h hc) _ _) $$ [H3 H0]
  · isplitl [H3]; · iexact H3
    iexact H0
  iintro ⟨H3, H0⟩
  iapply (issue_loop (F := F) c M4 x4 1 (qs 1) h (rowFn x4) k0_t2_loop (k0_t2_ok i hc) rfl _ (t2_step (F := F) c i M3 h3 M4 h4 M5 h5 M7 h7 M8 h8 M9 h9 M10 h10 x4 hx4 h hc) _ _) $$ [H4 H1]
  · isplitl [H4]; · iexact H4
    iexact H1
  iintro ⟨H4, H1⟩
  iapply Hk
  isplitl [H0]; · iexact H0
  isplitl [H1]; · iexact H1
  isplitl [H3]; · iexact H3
  iexact H4

/-- The validity word of the tile. -/
def vword (xt : S296.Idx → Elt F .i32) : Elt F .i32 := xt (ix1 (i 0))

/-- One word read from a table held at a share. -/
theorem word_load (M : Memref sig .tc .smem S296 .i32) (r : Rect S296) (h1 : r.shape.numel = 1) (q : PosShare TreeShare) (f : Buf (Elt F) (M.view.loc (c : Thread nD τ)))
    {β : Type} (kk : Elt F .i32 → Prog (TpuEff nD τ sig (Elt F) Λ₀ .tc) β) (Q : β → sProp 𝕄) :
    iprop(M.view.loc (c : Thread nD τ) ↦{q} f)
      ⊢ iprop((iprop(M.view.loc (c : Thread nD τ) ↦{q} f) -∗ wp frame (wpE (defs₀ (F := F)) Variants.none c none) Set.univ (kk ((M.access r).read (Elt F) f (Shape.Idx.first (h1.symm ▸ Nat.one_pos)))) Q)
      -∗ wp frame (wpE (defs₀ (F := F)) Variants.none c none) Set.univ (smemLoad M r h1 rfl >>= kk) Q) := by
  iintro HT Hk
  sl_exec
  iapply Hk
  iexact HT

theorem word_run (xt : S296.Idx → Elt F .i32) {β : Type} (kk : Elt F .i32 → Prog (TpuEff nD τ sig (Elt F) Λ₀ .tc) β) (Q : β → sProp 𝕄) :
    iprop(tbB.view.loc (c : Thread nD τ) ↦{fullShare.right} xt)
      ⊢ iprop((iprop(tbB.view.loc (c : Thread nD τ) ↦{fullShare.right} xt) -∗ wp frame (wpE (defs₀ (F := F)) Variants.none c none) Set.univ (kk (vword (F := F) i xt)) Q)
      -∗ wp frame (wpE (defs₀ (F := F)) Variants.none c none) Set.univ (smemLoad tbB (Rect.unit (s := S296) (k0_off1 i) S1.size (k0_off1_inb i)) numel1_S1 rfl >>= kk) Q) := by
  have e : (tbB.access (Rect.unit (s := S296) (k0_off1 i) S1.size (k0_off1_inb i))).read (Elt F) xt (Shape.Idx.first (numel1_S1.symm ▸ Nat.one_pos)) = vword (F := F) i xt := by
    refine congrArg xt (funext fun a => Fin.ext ?_)
    have hf : ((Shape.Idx.first (numel1_S1.symm ▸ Nat.one_pos) : S1.Idx) 0).val < 1 := (Shape.Idx.first (numel1_S1.symm ▸ Nat.one_pos) : S1.Idx) 0 |>.isLt
    fin_cases a
    show (Scalar.indexCast (BitVec.ofNat 32 (i 0).val)).toNat + 1 * ((Shape.Idx.first (numel1_S1.symm ▸ Nat.one_pos) : S1.Idx) 0).val = (i 0).val
    rw [coord_word (i 0)]; omega
  rw [← e]
  exact word_load (F := F) c tbB _ numel1_S1 fullShare.right xt kk Q

/-- The ring after a tile: the slot just read is free, the two others as `ring2` says. -/
def ringPost (h : S294912x128.Idx → Elt F .f32) (x4 x5 : Vec F S1x1x256 .i32) : sProp 𝕄 :=
  iprop(free (F := F) c (sl (i 0).val) (qs (sl (i 0).val)) h ∗ ring2 (F := F) c i h x4 x5)

/-- The whole body at a point: the ring moved on by one tile, every input as it was, the output's block at the tile's values. -/
theorem body_run (h : S294912x128.Idx → Elt F .f32) (xt : S296.Idx → Elt F .i32) (x3 x4 x5 : Vec F S1x1x256 .i32)
    (hx3 : InRange x3) (hx4 : InRange x4) (hx5 : InRange x5)
    (x7 x8 : Vec F S1x1024x2816 .bf16) (x9 : Vec F S1x2816x1024 .bf16) (Q : PUnit → sProp 𝕄) (W : Waits sig Unit) :
    iprop(ringPre (F := F) c i h x3 x4 ∗ free (F := F) c (sl ((i 0).val + 2)) (qs (sl ((i 0).val + 2))) h
      ∗ (tbB.view.loc (c : Thread nD τ) ↦{fullShare.right} xt)
      ∗ owns (c : Thread nD τ) M3 fullShare x3 ∗ owns (c : Thread nD τ) M4 fullShare x4 ∗ owns (c : Thread nD τ) M5 fullShare x5
      ∗ owns (c : Thread nD τ) M7 fullShare x7 ∗ owns (c : Thread nD τ) M8 fullShare x8 ∗ owns (c : Thread nD τ) M9 fullShare x9
      ∗ (∃ d, owns (c : Thread nD τ) M10 fullShare d) ∗ owes (c : Thread nD τ) 0 W)
      ⊢ iprop((iprop(ringPost (F := F) c i h x4 x5
          ∗ (tbB.view.loc (c : Thread nD τ) ↦{fullShare.right} xt)
          ∗ owns (c : Thread nD τ) M3 fullShare x3 ∗ owns (c : Thread nD τ) M4 fullShare x4 ∗ owns (c : Thread nD τ) M5 fullShare x5
          ∗ owns (c : Thread nD τ) M7 fullShare x7 ∗ owns (c : Thread nD τ) M8 fullShare x8 ∗ owns (c : Thread nD τ) M9 fullShare x9
          ∗ owns (c : Thread nD τ) M10 fullShare (tileOut (vword (F := F) i xt) (gathV h (rowFn x3)) x7 x8 x9) ∗ ∃ W', owes (c : Thread nD τ) 0 W') -∗ Q ⟨⟩)
      -∗ wp frame (wpE (defs₀ (F := F)) Variants.none c none) Set.univ (cc0_moe_ffn (F := F) i tbA htbA tbB htbB M3 h3 M4 h4 M5 h5 (Memref.whole main_v0) (Memref.isWhole_whole _) M7 h7 M8 h8 M9 h9 M10 h10 (Memref.whole cc0_scratch0) (Memref.isWhole_whole _) cc0_scratch1) Q) := by
  rw [body_eq (F := F) i M3 h3 M4 h4 M5 h5 M7 h7 M8 h8 M9 h9 M10 h10]
  unfold wholeG ringPre ringPost
  by_cases hc : k0_cond1 i = 1#1
  · have hi : (i 0).val = 0 := (cond1_iff (i 0)).mp hc
    have e0 : sl (i 0).val = 0 := by rw [hi]; rfl
    have e1 : sl ((i 0).val + 1) = 1 := by rw [hi]; rfl
    rw [if_pos hi]
    iintro ⟨HR, H2, HT, H3, H4, H5, H7, H8, H9, H10, HW⟩ Hk
    iapply (word_run (F := F) c i xt _ _) $$ HT
    iintro HT
    rw [dif_pos hc]
    icases HR with ⟨H0, H1⟩
    iapply (first_run (F := F) c i M3 h3 M4 h4 M5 h5 M7 h7 M8 h8 M9 h9 M10 h10 (sl (i 0).val) (sl ((i 0).val + 1)) e0 e1 hc h x3 x4 hx3 hx4 _ _) $$ [H0 H1 H3 H4]
    · isplitl [H0]; · iexact H0
      isplitl [H1]; · iexact H1
      isplitl [H3]; · iexact H3
      iexact H4
    iintro ⟨H0, H1, H3, H4⟩
    iapply (rest_run (F := F) c i M3 h3 M4 h4 M5 h5 M7 h7 M8 h8 M9 h9 M10 h10 h (rowFn x3) x4 x5 hx5 x7 x8 x9 _ Q W) $$ [H0 H1 H2 H5 H7 H8 H9 H10 HW]
    · isplitl [H0]; · iexact H0
      isplitl [H1]; · iexact H1
      isplitl [H2]; · iexact H2
      isplitl [H5]; · iexact H5
      isplitl [H7]; · iexact H7
      isplitl [H8]; · iexact H8
      isplitl [H9]; · iexact H9
      isplitl [H10]; · iexact H10
      iexact HW
    iintro ⟨H0, HR, H5, H7, H8, H9, H10, HW⟩
    iapply Hk
    isplitl [H0 HR]
    · isplitl [H0]; · iexact H0
      iexact HR
    isplitl [HT]; · iexact HT
    isplitl [H3]; · iexact H3
    isplitl [H4]; · iexact H4
    isplitl [H5]; · iexact H5
    isplitl [H7]; · iexact H7
    isplitl [H8]; · iexact H8
    isplitl [H9]; · iexact H9
    isplitl [H10]; · iexact H10
    iexact HW
  · rw [if_neg (fun he => hc ((cond1_iff (i 0)).mpr he))]
    iintro ⟨HR, H2, HT, H3, H4, H5, H7, H8, H9, H10, HW⟩ Hk
    iapply (word_run (F := F) c i xt _ _) $$ HT
    iintro HT
    rw [dif_neg hc]
    icases HR with ⟨H0, H1⟩
    iapply (rest_run (F := F) c i M3 h3 M4 h4 M5 h5 M7 h7 M8 h8 M9 h9 M10 h10 h (rowFn x3) x4 x5 hx5 x7 x8 x9 _ Q W) $$ [H0 H1 H2 H5 H7 H8 H9 H10 HW]
    · isplitl [H0]; · iexact H0
      isplitl [H1]; · iexact H1
      isplitl [H2]; · iexact H2
      isplitl [H5]; · iexact H5
      isplitl [H7]; · iexact H7
      isplitl [H8]; · iexact H8
      isplitl [H9]; · iexact H9
      isplitl [H10]; · iexact H10
      iexact HW
    iintro ⟨H0, HR, H5, H7, H8, H9, H10, HW⟩
    iapply Hk
    isplitl [H0 HR]
    · isplitl [H0]; · iexact H0
      iexact HR
    isplitl [HT]; · iexact HT
    isplitl [H3]; · iexact H3
    isplitl [H4]; · iexact H4
    isplitl [H5]; · iexact H5
    isplitl [H7]; · iexact H7
    isplitl [H8]; · iexact H8
    isplitl [H9]; · iexact H9
    isplitl [H10]; · iexact H10
    iexact HW

end Body

end Cert.Kernel3Ideal.Moe

end
-- ==== Proof.MoeTile.lean ====
/- What a tile of the experts' feed-forward leaves in its block of the result: 256 tokens against one expert's weights. -/
module

public import proofs.«01_k».proof.Proof.MoeBody
public import proofs.«01_k».proof.Proof.FfnRow
public import Idealize.ShloMosaic.Lib.Pipeline.ValueKit

@[expose] public section

set_option maxRecDepth 16384

noncomputable section

namespace Cert.Kernel3Ideal.Moe

open Idealize.ShloMosaic Idealize.ShloMosaic.TcCoe Idealize.SL.Sem Cert.Kernel3Ideal Cert.Kernel3Ideal.Gen

/-- A token's row out of its eight rows of lanes. -/
def tokRow (X : Vec Ideal S2048x128 .f32) (p : Fin 256) (k : Fin 1024) : EReal :=
  X (ix2 (⟨8 * p.val + k.val / 128, by omega⟩ : Fin 2048) (⟨k.val % 128, by omega⟩ : Fin 128))

/-- One of a token's eight rows of lanes, as the body loads it. -/
theorem lane_at (X : Vec Ideal S2048x128 .f32) (j : Fin 8) (p : Fin 256) (l : Fin 128) :
    View.ld X (laneR j) (ix2 p l) = X (ix2 (⟨8 * p.val + j.val, by omega⟩ : Fin 2048) l) := by
  refine congrArg X (funext fun a => Fin.ext ?_)
  fin_cases a
  · show j.val + 8 * p.val = 8 * p.val + j.val; omega
  · show 0 + 1 * l.val = l.val; omega

/-- An entry of the slot's rows, by its coordinates' numbers. -/
theorem lane_eq (X : Vec Ideal S2048x128 .f32) {a a' : Fin 2048} {b b' : Fin 128} (ha : a.val = a'.val) (hb : b.val = b'.val) : X (ix2 a b) = X (ix2 a' b') := by
  obtain rfl := Fin.ext ha
  obtain rfl := Fin.ext hb
  rfl

/-- The tile's rows are the tokens' rows. -/
theorem rows_at (X : Vec Ideal S2048x128 .f32) (p : Fin 256) (k : Fin 1024) : rowsV (F := Ideal) X (ix2 p k) = tokRow X p k := by
  pointwise [rowsV, k0_pay11]
  by_cases h0 : k.val < 128
  · rw [dif_pos h0]
    exact lane_eq X (show 0 + 8 * p.val = 8 * p.val + k.val / 128 by omega) (show 0 + 1 * (k.val) = k.val % 128 by omega)
  rw [dif_neg h0]
  by_cases h1 : k.val - 128 < 128
  · rw [dif_pos h1]
    exact lane_eq X (show 1 + 8 * p.val = 8 * p.val + k.val / 128 by omega) (show 0 + 1 * (k.val - 128) = k.val % 128 by omega)
  rw [dif_neg h1]
  by_cases h2 : k.val - 128 - 128 < 128
  · rw [dif_pos h2]
    exact lane_eq X (show 2 + 8 * p.val = 8 * p.val + k.val / 128 by omega) (show 0 + 1 * (k.val - 128 - 128) = k.val % 128 by omega)
  rw [dif_neg h2]
  by_cases h3 : k.val - 128 - 128 - 128 < 128
  · rw [dif_pos h3]
    exact lane_eq X (show 3 + 8 * p.val = 8 * p.val + k.val / 128 by omega) (show 0 + 1 * (k.val - 128 - 128 - 128) = k.val % 128 by omega)
  rw [dif_neg h3]
  by_cases h4 : k.val - 128 - 128 - 128 - 128 < 128
  · rw [dif_pos h4]
    exact lane_eq X (show 4 + 8 * p.val = 8 * p.val + k.val / 128 by omega) (show 0 + 1 * (k.val - 128 - 128 - 128 - 128) = k.val % 128 by omega)
  rw [dif_neg h4]
  by_cases h5 : k.val - 128 - 128 - 128 - 128 - 128 < 128
  · rw [dif_pos h5]
    exact lane_eq X (show 5 + 8 * p.val = 8 * p.val + k.val / 128 by omega) (show 0 + 1 * (k.val - 128 - 128 - 128 - 128 - 128) = k.val % 128 by omega)
  rw [dif_neg h5]
  by_cases h6 : k.val - 128 - 128 - 128 - 128 - 128 - 128 < 128
  · rw [dif_pos h6]
    exact lane_eq X (show 6 + 8 * p.val = 8 * p.val + k.val / 128 by omega) (show 0 + 1 * (k.val - 128 - 128 - 128 - 128 - 128 - 128) = k.val % 128 by omega)
  rw [dif_neg h6]
  exact lane_eq X (show 7 + 8 * p.val = 8 * p.val + k.val / 128 by omega) (show 0 + 1 * (k.val - 128 - 128 - 128 - 128 - 128 - 128 - 128) = k.val % 128 by omega)

/-- The first stretch of hidden units, entry by entry. -/
theorem first (h : FVec Ideal S256x1024 .bf16) (a b : Vec Ideal S1x1024x1536 .bf16) (w : Vec Ideal S1x1536x1024 .bf16)
    (p : Fin 256) (d : Fin 1024) : k0_pay12 (F := Ideal) h a b w (ix2 p d)
      = ∑ f : Fin 1536, Ffn.unit (fun k => h (ix2 p k)) (fun k => a (ix3 0 k f)) (fun k => b (ix3 0 k f)) * w (ix3 0 f d) := by
  pointwise [k0_pay12, Ffn.unit, Ffn.silu]
  simp only [zero_sub]

/-- The second stretch's hidden units. -/
theorem second (h : FVec Ideal S256x1024 .bf16) (a b : Vec Ideal S1x1024x1280 .bf16)
    (p : Fin 256) (f : Fin 1280) : k0_pay13 (F := Ideal) h a b (ix2 p f)
      = Ffn.unit (fun k => h (ix2 p k)) (fun k => a (ix3 0 k f)) (fun k => b (ix3 0 k f)) := by
  pointwise [k0_pay13, Ffn.unit, Ffn.silu]
  simp only [zero_sub]

/-- The two stretches added. -/
theorem added (y : FVec Ideal S256x1024 .f32) (u : FVec Ideal S256x1280 .bf16) (w : Vec Ideal S1x1280x1024 .bf16) (p : Fin 256) (d : Fin 1024) :
    k0_pay1 (F := Ideal) y u w (ix2 p d) = y (ix2 p d) + ∑ f : Fin 1280, u (ix2 p f) * w (ix3 0 f d) := by
  pointwise [k0_pay1]

/-- The stretches of the weights, as the body loads them. -/
theorem up_low (x : Vec Ideal S1x1024x2816 .bf16) (k : Fin 1024) (f : Fin 1536) :
    View.ld x (Rect.unit ![0, 0, 0] S1x1024x1536.size inb_S1x1024x2816_S1x1024x1536_0_0_0) (ix3 0 k f) = x (ix3 0 k ⟨f.val, by omega⟩) := by
  refine congrArg x (funext fun a => Fin.ext ?_)
  fin_cases a
  · rfl
  · show 0 + 1 * k.val = k.val; omega
  · show 0 + 1 * f.val = f.val; omega
theorem up_high (x : Vec Ideal S1x1024x2816 .bf16) (k : Fin 1024) (f : Fin 1280) :
    View.ld x (Rect.unit ![0, 0, 1536] S1x1024x1280.size inb_S1x1024x2816_S1x1024x1280_0_0_1536) (ix3 0 k f) = x (ix3 0 k ⟨1536 + f.val, by omega⟩) := by
  refine congrArg x (funext fun a => Fin.ext ?_)
  fin_cases a
  · rfl
  · show 0 + 1 * k.val = k.val; omega
  · show 1536 + 1 * f.val = 1536 + f.val; omega
theorem down_low (x : Vec Ideal S1x2816x1024 .bf16) (f : Fin 1536) (d : Fin 1024) :
    View.ld x (Rect.unit ![0, 0, 0] S1x1536x1024.size inb_S1x2816x1024_S1x1536x1024_0_0_0) (ix3 0 f d) = x (ix3 0 ⟨f.val, by omega⟩ d) := by
  refine congrArg x (funext fun a => Fin.ext ?_)
  fin_cases a
  · rfl
  · show 0 + 1 * f.val = f.val; omega
  · show 0 + 1 * d.val = d.val; omega
theorem down_high (x : Vec Ideal S1x2816x1024 .bf16) (f : Fin 1280) (d : Fin 1024) :
    downV (F := Ideal) x (ix3 0 f d) = x (ix3 0 ⟨1536 + f.val, by omega⟩ d) := by
  refine congrArg x (funext fun a => Fin.ext ?_)
  fin_cases a
  · rfl
  · show 1536 + 1 * f.val = 1536 + f.val; omega
  · show 0 + 1 * d.val = d.val; omega

/-- One entry of the tile: a token's row against all of the expert's weights. -/
def cell (X : Vec Ideal S2048x128 .f32) (x7 x8 : Vec Ideal S1x1024x2816 .bf16) (x9 : Vec Ideal S1x2816x1024 .bf16) (p : Fin 256) (d : Fin 1024) : EReal :=
  Ffn.out (tokRow X p) (fun k f => x7 (ix3 0 k f)) (fun k f => x8 (ix3 0 k f)) (fun f => x9 (ix3 0 f d))

theorem sum_at (X : Vec Ideal S2048x128 .f32) (x7 x8 : Vec Ideal S1x1024x2816 .bf16) (x9 : Vec Ideal S1x2816x1024 .bf16) (p : Fin 256) (d : Fin 1024) :
    k0_pay1 (F := Ideal) (accV X x7 x8 x9) (hidV X x7 x8) (downV x9) (ix2 p d) = cell X x7 x8 x9 p d := by
  rw [added]
  unfold accV hidV cell
  rw [first, Ffn.out_split]
  have hx : (fun k : Fin 1024 => rowsV (F := Ideal) X (ix2 p k)) = tokRow X p := funext (rows_at X p)
  refine congrArg₂ (· + ·) (Finset.sum_congr rfl fun f _ => ?_) (Finset.sum_congr rfl fun f _ => ?_)
  · rw [hx, down_low, funext fun k => up_low x7 k f, funext fun k => up_low x8 k f]
  · rw [second, hx, down_high, funext fun k => up_high x7 k f, funext fun k => up_high x8 k f]

/-- A token's sums where its eight rows of lanes keep them. -/
def spread (g : FVec Ideal S256x1024 .f32) (y : S2048x128.Idx) : EReal :=
  have h0 : (y 0).val < 2048 := (y 0).isLt
  have h1 : (y 1).val < 128 := (y 1).isLt
  g (ix2 (⟨(y 0).val / 8, by omega⟩ : Fin 256) (⟨128 * ((y 0).val % 8) + (y 1).val, by omega⟩ : Fin 1024))

theorem sums_eq (g : FVec Ideal S256x1024 .f32) {a a' : Fin 256} {b b' : Fin 1024} (ha : a.val = a'.val) (hb : b.val = b'.val) : g (ix2 a b) = g (ix2 a' b') := by
  obtain rfl := Fin.ext ha
  obtain rfl := Fin.ext hb
  rfl

/-- One stored slice of the sums lies where `spread` has it. -/
theorem lane_piece (v64 : FVec Ideal S256x1024 .f32) (v80 : FVec Ideal S256x1280 .bf16) (v81 : Vec Ideal S1x1280x1024 .bf16) (j : Fin 8)
    (w : FVec Ideal S256x128 .f32) (hw : ∀ (p : Fin 256) (l : Fin 128), w (ix2 p l) = k0_pay1 (F := Ideal) v64 v80 v81 (ix2 p (⟨128 * j.val + l.val, by omega⟩ : Fin 1024)))
    (y : S2048x128.Idx) (x : S256x128.Idx) (hx : (laneR j).emb x = y) : w x = spread (k0_pay1 (F := Ideal) v64 v80 v81) y := by
  subst hx
  have h0 : (x 0).val < 256 := (x 0).isLt
  have h1 : (x 1).val < 128 := (x 1).isLt
  have hj := j.isLt
  have ex : x = ix2 (⟨(x 0).val, h0⟩ : Fin 256) (⟨(x 1).val, h1⟩ : Fin 128) := by funext a; fin_cases a <;> rfl
  refine (congrArg w ex).trans ((hw _ _).trans (sums_eq _ ?_ ?_))
  · show (x 0).val = (j.val + 8 * (x 0).val) / 8; omega
  · show 128 * j.val + (x 1).val = 128 * ((j.val + 8 * (x 0).val) % 8) + (0 + 1 * (x 1).val); omega

/-- What a tile with tokens leaves, entry by entry. -/
theorem comp_at (X : Vec Ideal S2048x128 .f32) (x7 x8 : Vec Ideal S1x1024x2816 .bf16) (x9 : Vec Ideal S1x2816x1024 .bf16) (p : Fin 256) (d : Fin 1024)
    (y : S2048x128.Idx) (h0 : (y 0).val = 8 * p.val + d.val / 128) (h1 : (y 1).val = d.val % 128) :
    compOut (F := Ideal) X x7 x8 x9 y = cell X x7 x8 x9 p d := by
  have key : ∀ v64 v80 v81, View.canon (compL (F := Ideal) v64 v80 v81) y = spread (k0_pay1 (F := Ideal) v64 v80 v81) y := fun v64 v80 v81 => by
    refine View.canon_eq_of_allAt _ _ _ (comp_cover v64 v80 v81 y) fun q hq x hx => ?_
    unfold compL at hq
    simp only [List.mem_cons, List.not_mem_nil, or_false] at hq
    rcases hq with rfl | rfl | rfl | rfl | rfl | rfl | rfl | rfl
    · exact lane_piece v64 v80 v81 7 _ (fun p l => by pointwise [k0_pay9]) y x hx
    · exact lane_piece v64 v80 v81 6 _ (fun p l => by pointwise [k0_pay8]) y x hx
    · exact lane_piece v64 v80 v81 5 _ (fun p l => by pointwise [k0_pay7]) y x hx
    · exact lane_piece v64 v80 v81 4 _ (fun p l => by pointwise [k0_pay6]) y x hx
    · exact lane_piece v64 v80 v81 3 _ (fun p l => by pointwise [k0_pay5]) y x hx
    · exact lane_piece v64 v80 v81 2 _ (fun p l => by pointwise [k0_pay4]) y x hx
    · exact lane_piece v64 v80 v81 1 _ (fun p l => by pointwise [k0_pay3]) y x hx
    · exact lane_piece v64 v80 v81 0 _ (fun p l => by pointwise [k0_pay2]) y x hx
  refine (key _ _ _).trans ((sums_eq _ ?_ ?_).trans (sum_at X x7 x8 x9 p d))
  · show (y 0).val / 8 = p.val; omega
  · show 128 * ((y 0).val % 8) + (y 1).val = d.val; omega

/-- What a tile without tokens leaves. -/
theorem zero_at (y : S2048x128.Idx) : zeroOut (F := Ideal) y = Ideal.ofBits .f32 0x00000000#32 :=
  View.canon_eq_of_allAt _ _ _ (zero_cover _ y) fun q hq x hx => by
    obtain rfl := List.mem_singleton.mp hq
    rfl

end Cert.Kernel3Ideal.Moe

end
-- ==== Proof.MoeFrame.lean ====
/- The experts' kernel run as a whole: the ring's state between the tiles as the pipeline's invariant, the body at every
point, and the launch, at any values, for tables whose words are in range. -/
module

public import proofs.«01_k».proof.Proof.MoeBody
public import Idealize.ShloMosaic.Lib.Pipeline.FrameBody
public import Idealize.ShloMosaic.Lib.Claim

@[expose] public section

set_option maxRecDepth 16384

noncomputable section

namespace Cert.Kernel3Ideal.Moe

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel3Ideal Cert.Kernel3Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays the kernel is entered with -/

/-- Each buffer after the host operations before the kernel. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem entered (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub host_fresh main_chain

/-- A buffer the host operations do not write is entered as launched. -/
theorem V_keep (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-- The tables' contents, and the kernel's blocks' condition on them. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄)
    = iprop((tbA.view.loc (c : Thread nD τ) ↦{fullShare.right} (tbl m 0 : S296.Idx → Elt F .i32)) ∗ (tbB.view.loc (c : Thread nD τ) ↦{fullShare.right} (tbl m 1 : S296.Idx → Elt F .i32))) := by
  unfold Pipeline.ΦT Pipeline.prefHeld
  rw [show (Finset.univ : Finset (Fin 2)) = insert (0 : Fin 2) {(1 : Fin 2)} from by decide,
    bigSep_insert (by decide), bigSep_singleton]
  rfl

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The token array as the kernel is handed it, and the words of a tile. -/
abbrev hv (c : Dev nD) : S294912x128.Idx → Elt F .f32 := V m c main_v0
def words (c : Dev nD) (n : ℕ) : Vec F S1x1x256 .i32 := fun y =>
  (V m c main_v4 : S296x1x256.Idx → Elt F .i32) (ix3 (⟨min n 295, by omega⟩ : Fin 296) (0 : Fin 1) (y 2))

/-- Every token word in range. -/
def Rng : Prop := ∀ (c : Dev nD) (x : S296x1x256.Idx), ((V m c main_v4 : S296x1x256.Idx → Elt F .i32) x : BitVec 32).toNat < 36864

theorem words_in (hR : Rng m) (c : Dev nD) (n : ℕ) : InRange (words m c n) := fun k => hR c _

theorem coord_at : ∀ t : Fin grid0.N, (grid0.coords t 0).val = t.val := by decide +kernel
theorem tr_0 : ∀ t : Fin grid0.N, cc0_transform_0 (grid0.coords t) = ![min t.val 295, 0, 0] := by decide +kernel
theorem tr_1 : ∀ t : Fin grid0.N, cc0_transform_1 (grid0.coords t) = ![min (t.val + 1) 295, 0, 0] := by decide +kernel
theorem tr_2 : ∀ t : Fin grid0.N, cc0_transform_2 (grid0.coords t) = ![min (t.val + 2) 295, 0, 0] := by decide +kernel

/-- A block of the words' array at a tile. -/
theorem words_of (c : Dev nD) (o : Fin 3 → ℕ) (n : ℕ) (ho : o = ![min n 295, 0, 0]) (inb) (y : S1x1x256.Idx) :
    (V m c main_v4 : S296x1x256.Idx → Elt F .i32) ((Rect.block (s := S296x1x256) S1x1x256.size o inb).emb y) = words m c n y := by
  subst ho
  have h0 : (y 0).val < 1 := (y 0).isLt
  have h1 : (y 1).val < 1 := (y 1).isLt
  refine congrArg (V m c main_v4 : S296x1x256.Idx → Elt F .i32) (funext fun a => Fin.ext ?_)
  fin_cases a
  · show min n 295 * 1 + 1 * (y 0).val = min n 295; omega
  · show 0 * 1 + 1 * (y 1).val = 0; omega
  · show 0 * 256 + 1 * (y 2).val = (y 2).val; omega

theorem iblk_0 (hO : Ok m) (c : Dev nD) (t : Fin (cfgM m hO).N) : iblk m hO c 0 t = words m c t.val :=
  funext fun y => words_of m c (cc0_transform_0 (grid0.coords t)) t.val (tr_0 t) (hinb0_0 (grid0.coords t)) y
theorem iblk_1 (hO : Ok m) (c : Dev nD) (t : Fin (cfgM m hO).N) : iblk m hO c 1 t = words m c (t.val + 1) :=
  funext fun y => words_of m c (cc0_transform_1 (grid0.coords t)) (t.val + 1) (tr_1 t) (hinb0_1 (grid0.coords t)) y
theorem iblk_2 (hO : Ok m) (c : Dev nD) (t : Fin (cfgM m hO).N) : iblk m hO c 2 t = words m c (t.val + 2) :=
  funext fun y => words_of m c (cc0_transform_2 (grid0.coords t)) (t.val + 2) (tr_2 t) (hinb0_2 (grid0.coords t)) y

/-! ## The ring between the tiles -/

/-- A slot free, with its own share of the token array; and in flight with a tile's rows. -/
abbrev freeS (c : Dev nD) (n : ℕ) : sProp 𝕄 := free (F := F) c (sl n) (qs (sl n)) (hv m c)
abbrev flightS (c : Dev nD) (n : ℕ) : sProp 𝕄 := flight (F := F) c (sl n) (qs (sl n)) (hv m c) (rowFn (words m c n))

/-- The ring before tile `n`. -/
def ring (c : Dev nD) (n : ℕ) : sProp 𝕄 :=
  if n = 0 ∨ n = 296 then iprop(freeS m c 0 ∗ freeS m c 1 ∗ freeS m c 2)
  else iprop(flightS m c n ∗ flightS m c (n + 1) ∗ freeS m c (n + 2))

theorem sl_3 (n : ℕ) : sl (n + 3) = sl n := Fin.ext (Nat.add_mod_right n 3)

theorem ring_pre (c : Dev nD) (t : Fin grid0.N) :
    ring m c t.val ⊢ iprop(ringPre (F := F) c (grid0.coords t) (hv m c) (words m c t.val) (words m c (t.val + 1))
      ∗ free (F := F) c (sl ((grid0.coords t 0).val + 2)) (qs (sl ((grid0.coords t 0).val + 2))) (hv m c)) := by
  have ht : t.val < 296 := N_0 ▸ t.isLt
  unfold ring ringPre
  rw [coord_at t]
  by_cases h : t.val = 0
  · rw [if_pos (Or.inl h), if_pos h, h]
    iintro ⟨H0, H1, H2⟩
    isplitl [H0 H1]
    · isplitl [H0]; · iexact H0
      iexact H1
    iexact H2
  · rw [if_neg (by omega), if_neg h]
    iintro ⟨H0, H1, H2⟩
    isplitl [H0 H1]
    · isplitl [H0]; · iexact H0
      iexact H1
    iexact H2

theorem ring_post (c : Dev nD) (t : Fin grid0.N) :
    ringPost (F := F) c (grid0.coords t) (hv m c) (words m c (t.val + 1)) (words m c (t.val + 2)) ⊢ ring m c (t.val + 1) := by
  have ht : t.val < 296 := N_0 ▸ t.isLt
  unfold ring ringPost ring2
  rw [coord_at t]
  by_cases h : t.val = 295
  · rw [if_pos h, if_pos (Or.inr (by omega)), h]
    iintro ⟨H1, H2, H0⟩
    isplitl [H0]; · iexact H0
    isplitl [H1]; · iexact H1
    iexact H2
  · rw [if_neg h, if_neg (by omega)]
    iintro ⟨H0, H1, H2⟩
    isplitl [H1]; · iexact H1
    isplitl [H2]; · iexact H2
    unfold freeS
    rw [show sl (t.val + 1 + 2) = sl t.val from sl_3 t.val]
    iexact H0

/-- The ring's buffer, whole, is its three slots; the three slots at any contents are the buffer at some. -/
theorem slots_disjoint : ∀ s s' : Fin 3, s ≠ s' → Disjoint (sset s) (sset s') := fun s s' hne =>
  Finset.disjoint_left.mpr fun y h h' => hne (Fin.ext (((mem_slot s y).mp h).symm.trans ((mem_slot s' y).mp h')))
theorem slots_cover : Finset.univ.biUnion sset = Finset.univ :=
  Finset.eq_univ_of_forall fun y => Finset.mem_biUnion.mpr ⟨y 0, Finset.mem_univ _, (mem_slot (y 0) y).mpr rfl⟩
theorem bigSep_3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

abbrev scratchPt (c : Dev nD) (f : S3x2048x128.Idx → Elt F .f32) : sProp 𝕄 := ((c : Thread nD τ).loc cc0_scratch0) ↦{fullShare} f

theorem scratch_split (c : Dev nD) (f : S3x2048x128.Idx → Elt F .f32) :
    scratchPt (F := F) c f = iprop(slotPt (F := F) c 0 f ∗ slotPt (F := F) c 1 f ∗ slotPt (F := F) c 2 f) :=
  (Ring.pointsTo_sub_blocks (ℓ := (c : Thread nD τ).loc cc0_scratch0) sset slots_disjoint Finset.univ slots_cover f).trans
    (bigSep_3 (F := F) (fun s => slotPt (F := F) c s f))

theorem scratch_join (c : Dev nD) (g0 g1 g2 : S3x2048x128.Idx → Elt F .f32) :
    iprop(slotPt (F := F) c 0 g0 ∗ slotPt (F := F) c 1 g1 ∗ slotPt (F := F) c 2 g2) ⊢ iprop(∃ f, scratchPt (F := F) c f) := by
  have e : ∀ (s : Fin 3) (g : S3x2048x128.Idx → Elt F .f32), (∀ y, (y 0).val = s.val → g y = (fun y => (![g0, g1, g2] : Fin 3 → S3x2048x128.Idx → Elt F .f32) (y 0) y) y) →
      slotPt (F := F) c s g = slotPt (F := F) c s (fun y => (![g0, g1, g2] : Fin 3 → S3x2048x128.Idx → Elt F .f32) (y 0) y) :=
    fun s g hg => pointsTo_congr fun y hy => hg y ((mem_slot s y).mp hy)
  rw [e 0 g0 (fun y hy => by have : @Eq (Fin 3) (y 0) 0 := Fin.ext hy
                             show g0 y = _; dsimp only; rw [this]; rfl),
    e 1 g1 (fun y hy => by have : @Eq (Fin 3) (y 0) 1 := Fin.ext hy
                           dsimp only; rw [this]; rfl),
    e 2 g2 (fun y hy => by have : @Eq (Fin 3) (y 0) 2 := Fin.ext hy
                           dsimp only; rw [this]; rfl), ← scratch_split]
  iintro H; iexists _; iexact H

/-- The token array at the full share: a share for each slot and what is left. -/
theorem tokens_split (c : Dev nD) (h : S294912x128.Idx → Elt F .f32) : hPt (F := F) c fullShare h
    = iprop(hPt (F := F) c (Transfers.shareDrop fullShare 3) h ∗ hPt (F := F) c (qs 0) h ∗ hPt (F := F) c (qs 1) h ∗ hPt (F := F) c (qs 2) h) := by
  have e1 : hPt (F := F) c fullShare h = iprop(hPt (F := F) c (Transfers.shareDrop fullShare 3) h
      ∗ bigSep (Finset.range 3) (fun i => hPt (F := F) c (Transfers.shareTokN fullShare i) h)) :=
    Entails.antisymm (Transfers.pointsTo_toks_range fullShare 3).1 (Transfers.pointsTo_toks_range fullShare 3).2
  rw [e1, BI.bigSep_eq_bigSepL_of_eq [0, 1, 2] (by decide) (by decide)]
  rfl

/-- The ring, whole and free. -/
def idleRing (c : Dev nD) : sProp 𝕄 :=
  iprop((∃ f, scratchPt (F := F) c f) ∗ (semVal ((c : Thread nD τ), SemLoc.dma 14) 0 ∗ semVal ((c : Thread nD τ), SemLoc.dma 15) 0 ∗ semVal ((c : Thread nD τ), SemLoc.dma 16) 0)
    ∗ hPt (F := F) c fullShare (hv m c))

theorem idle_split (c : Dev nD) : idleRing m c ⊢ iprop((freeS m c 0 ∗ freeS m c 1 ∗ freeS m c 2) ∗ hPt (F := F) c (Transfers.shareDrop fullShare 3) (hv m c)) := by
  have e0 : semS (sl 0) = 14 := semS_eq.1
  have e1 : semS (sl 1) = 15 := semS_eq.2.1
  have e2 : semS (sl 2) = 16 := semS_eq.2.2
  unfold idleRing freeS free
  rw [tokens_split, e0, e1, e2]
  iintro ⟨⟨%f, Hf⟩, ⟨HA, HB, HC⟩, ⟨Hd, H0, H1, H2⟩⟩
  ihave Hf := (Entails.of_eq (scratch_split (F := F) c f)) $$ Hf
  icases Hf with ⟨F0, F1, F2⟩
  isplitr [Hd]; swap
  · iexact Hd
  isplitl [F0 HA H0]
  · isplitl [F0]; · iexists _; iexact F0
    isplitl [HA]; · iexact HA
    iexact H0
  isplitl [F1 HB H1]
  · isplitl [F1]; · iexists _; iexact F1
    isplitl [HB]; · iexact HB
    iexact H1
  isplitl [F2]; · iexists _; iexact F2
  isplitl [HC]; · iexact HC
  iexact H2

theorem idle_join (c : Dev nD) : iprop((freeS m c 0 ∗ freeS m c 1 ∗ freeS m c 2) ∗ hPt (F := F) c (Transfers.shareDrop fullShare 3) (hv m c)) ⊢ idleRing m c := by
  have e0 : semS (sl 0) = 14 := semS_eq.1
  have e1 : semS (sl 1) = 15 := semS_eq.2.1
  have e2 : semS (sl 2) = 16 := semS_eq.2.2
  unfold idleRing freeS free
  rw [tokens_split, e0, e1, e2]
  iintro ⟨⟨⟨⟨%g0, F0⟩, HA, H0⟩, ⟨⟨%g1, F1⟩, HB, H1⟩, ⟨⟨%g2, F2⟩, HC, H2⟩⟩, Hd⟩
  isplitl [F0 F1 F2]
  · iapply (scratch_join (F := F) c g0 g1 g2)
    isplitl [F0]; · iexact F0
    isplitl [F1]; · iexact F1
    iexact F2
  isplitl [HA HB HC]
  · isplitl [HA]; · iexact HA
    isplitl [HB]; · iexact HB
    iexact HC
  isplitl [Hd]; · iexact Hd
  isplitl [H0]; · iexact H0
  isplitl [H1]; · iexact H1
  iexact H2

/-! ## The launch's own semaphores and the array the body copies from -/

abbrev osem : Fin 3 → SemLoc sig := fun j => (![SemLoc.dma 14, SemLoc.dma 15, SemLoc.dma 16] : Fin 3 → SemLoc sig) j
theorem osem_facts : Pipeline.OwnSemFacts spec0 osem := by decide
def hset : Finset (Ref sig .tc) := {main_v0}
theorem hset_sub : hset ⊆ Pipeline.restRefsP sig pre0 spec0 := by decide
theorem osem_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 14) 0 ∗ semVal ((c : Thread nD τ), SemLoc.dma 15) 0 ∗ semVal ((c : Thread nD τ), SemLoc.dma 16) 0) := by
  rw [Pipeline.ownSems0_eq_of_list c osem [0, 1, 2] (by decide) (by decide)]; rfl
theorem hset_eq (c : Dev nD) :
    (bigSep hset (fun b => ((c : Thread nD τ).loc b) ↦{fullShare} V m c b) : sProp 𝕄) = hPt (F := F) c fullShare (hv m c) := by
  rw [BI.bigSep_eq_bigSepL_of_eq [main_v0] (by decide) (by decide)]; rfl
theorem phi_eq (c : Dev nD) : (Pipeline.ΦD osem spec0 hset (V m) c : sProp 𝕄)
    = iprop((∃ f, scratchPt (F := F) c f) ∗ (∃ r, prngReg c r) ∗ (semVal ((c : Thread nD τ), SemLoc.dma 14) 0 ∗ semVal ((c : Thread nD τ), SemLoc.dma 15) 0 ∗ semVal ((c : Thread nD τ), SemLoc.dma 16) 0) ∗ hPt (F := F) c fullShare (hv m c)) := by
  rw [Pipeline.ΦD_eq, scopedRest0_eq, osem_eq, hset_eq]; try rfl

/-! ## The proof data and the body at a point -/

/-- What a tile leaves in the result's block. -/
def outAt (hO : Ok m) (c : Dev nD) (t : Fin (cfgM m hO).N) : Vec F S2048x128 .f32 :=
  tileOut (vword (F := F) (grid0.coords t) (tbl m 1)) (gathV (hv m c) (rowFn (words m c t.val))) (iblk m hO c 3 t) (iblk m hO c 4 t) (iblk m hO c 5 t)

/-- The invariant before tile `n`. -/
def inv (c : Dev nD) (n : ℕ) : sProp 𝕄 :=
  iprop(ring m c n ∗ hPt (F := F) c (Transfers.shareDrop fullShare 3) (hv m c) ∗ (∃ r, prngReg c r) ∗ Pipeline.ΦT pre0 (tbl m) c)

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outAt m hO c t
  Φ t := inv m c t.val
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = outAt m hO c t := by dsimp only [dats]; try rfl

theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- The body at a point, as the pipeline calls it, before and after. -/
abbrev bodyAt (hO : Ok m) (t : Fin (cfgM m hO).N) : Prog (TpuEff nD τ sig (Elt F) Λ₀ .tc) PUnit :=
  cc0_moe_ffn (grid0.coords t) tbA htbA tbB htbB (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (Memref.whole main_v0) (Memref.isWhole_whole _) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (Memref.whole cc0_scratch0) (Memref.isWhole_whole _) cc0_scratch1

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d))
    ∗ (∃ d, owns (c : Thread nD τ) (spec0_6.stage ((cfgM m hO).slots t 6)) fullShare ((dats m hO 0 c).before 6 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t)
    ∗ owns (c : Thread nD τ) (spec0_6.stage ((cfgM m hO).slots t 6)) fullShare ((dats m hO 0 c).after 6 t))

set_option maxHeartbeats 800000 in
/-- The body at any point. -/
theorem sound_body (hO : Ok m) (hR : Rng m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5]
  rw [after_0, after_1, after_2, after_3, after_4, after_5, after_6]
  rw [show (dats m hO 0 c).Φ t.castSucc = inv m c t.val from rfl, show (dats m hO 0 c).Φ t.succ = inv m c (t.val + 1) from rfl]
  unfold Dat.owesAt Pipeline.owesWithin
  rw [show (dats m hO 0 c).owed t.castSucc = 0 from rfl, show (dats m hO 0 c).owed t.succ = 0 from rfl]
  rw [iblk_0, iblk_1, iblk_2]
  unfold outAt inv
  rw [tables_eq]
  iintro ⟨⟨HR, Hd, Hg, ⟨HA, HB⟩⟩, ⟨%W, -, HW⟩, ⟨%d0, H0⟩, ⟨%d1, H1⟩, ⟨%d2, H2⟩, ⟨%d3, H3⟩, ⟨%d4, H4⟩, ⟨%d5, H5⟩, ⟨%d6, H6⟩⟩
  ihave HR := (ring_pre m c t) $$ HR
  icases HR with ⟨HR, HF⟩
  iapply (body_run (F := F) c (grid0.coords t) _ _ _ _ _ _ _ _ _ _ _ _ _ _ (hv m c) (tbl m 1) (words m c t.val) (words m c (t.val + 1)) (words m c (t.val + 2))
    (words_in m hR c _) (words_in m hR c _) (words_in m hR c _) (iblk m hO c 3 t) (iblk m hO c 4 t) (iblk m hO c 5 t) _ W) $$ [HR HF HB H0 H1 H2 H3 H4 H5 H6 HW]
  · isplitl [HR]; · iexact HR
    isplitl [HF]; · iexact HF
    isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexact HW
  iintro ⟨HR, HB, H0, H1, H2, H3, H4, H5, H6, ⟨%W', HW⟩⟩
  ihave HR := (ring_post m c t) $$ HR
  isplitl [HR Hd Hg HA HB]
  · isplitl [HR]; · iexact HR
    isplitl [Hd]; · iexact Hd
    isplitl [Hg]; · iexact Hg
    isplitl [HA]; · iexact HA
    iexact HB
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The result's block is written at every tile: one of the two branches is taken. -/
theorem idle_6 (hO : Ok m) (t : Fin (cfgM m hO).N) : (cfgM m hO).idle (6 : Fin 7) ((cfgM m hO).grid.coords t) = false := by
  have key : ∀ v : BitVec 32, (!(k0_cond2 v == 1#1) && !(k0_cond3 v == 1#1)) = false := fun v => by
    by_cases hv : v = 1#32
    · rw [show (k0_cond2 v == 1#1) = true from beq_iff_eq.mpr ((cond2_iff v).mpr hv)]; rfl
    · rw [show (k0_cond3 v == 1#1) = true from beq_iff_eq.mpr ((cond3_iff v).mpr hv)]; exact Bool.and_false _
  exact key _

theorem obligation (hO : Ok m) (hR : Rng m) (c : Dev nD) : BodyObligation (dats (F := F) m hO 0 c) (defs₀ (F := F)) Variants.none () Set.univ := fun t => by
  rw [bigSep_W0, bigSep_W0, row_eq m hO, idle_6 m hO t]
  exact triple_restated (sound_body m hO hR c t) rfl .rfl fun _ => .rfl

/-! ## The run -/

theorem enter (hO : Ok m) (c : Dev nD) : iprop(Pipeline.ΦD osem spec0 hset (V m) c ∗ Pipeline.ΦT pre0 (tbl m) c) ⊢ (inv m c 0 : sProp 𝕄) := by
  unfold inv
  rw [phi_eq]
  have key := idle_split m c
  unfold idleRing at key
  unfold ring
  rw [if_pos (Or.inl rfl)]
  iintro ⟨⟨HS, Hg, Hq, Hh⟩, HT⟩
  ihave HR := key $$ [HS Hq Hh]
  · isplitl [HS]; · iexact HS
    isplitl [Hq]; · iexact Hq
    iexact Hh
  icases HR with ⟨HR, Hd⟩
  isplitl [HR]; · iexact HR
  isplitl [Hd]; · iexact Hd
  isplitl [Hg]; · iexact Hg
  iexact HT

theorem leave (c : Dev nD) : (inv m c 296 : sProp 𝕄) ⊢ Pipeline.ΦD osem spec0 hset (V m) c := by
  unfold inv
  rw [phi_eq]
  have key := idle_join m c
  unfold idleRing at key
  unfold ring
  rw [if_pos (Or.inr rfl)]
  iintro ⟨HR, Hd, Hg, -⟩
  ihave HR := key $$ [HR Hd]
  · isplitl [HR]; · iexact HR
    iexact Hd
  icases HR with ⟨HS, Hq, Hh⟩
  isplitl [HS]; · iexact HS
  isplitl [Hg]; · iexact Hg
  isplitl [Hq]; · iexact Hq
  iexact Hh

set_option backward.isDefEq.respectTransparency.types false in
/-- The launch: every array of the pipeline at what the proof data says, every other buffer as the kernel found it, and every semaphore at zero. -/
theorem run (hO : Ok m) (hR : Rng m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma_shared (Q' := _) pcfgs (fun _ => adm m hO) (dats m hO) (0 : Fin 1) launch₀0 osem defs₀ Variants.none osem_facts hset hset_sub m ρ main
    (hbody := fun c => (obligation m hO hR c).loose) (hq := fun _ _ _ => rfl)
    (howed := fun _ _ => rfl) (V := V m) (hmain := entered m Variants.none) (hA := A_eq m hO) (hpf := V_pre m)
    (hin := fun c => enter m hO c) (hout := fun c => leave m c)

/-- The arguments end as they were, and every semaphore counter at zero. -/
theorem frame_run (hO : Ok m) (hR : Rng m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (by decide : main_arg0 ∈ Pipeline.restRefs sig spec0)).trans (V_keep m c main_arg0 (by decide) (by decide) (by decide) (by decide) (by decide)),
      ((h.1 c).2 main_arg1 (by decide : main_arg1 ∈ Pipeline.restRefs sig spec0)).trans (V_keep m c main_arg1 (by decide) (by decide) (by decide) (by decide) (by decide)),
      ((h.1 c).2 main_arg2 (by decide : main_arg2 ∈ Pipeline.restRefs sig spec0)).trans (V_keep m c main_arg2 (by decide) (by decide) (by decide) (by decide) (by decide)),
      ((h.1 c).2 main_arg3 (by decide : main_arg3 ∈ Pipeline.restRefs sig spec0)).trans (V_keep m c main_arg3 (by decide) (by decide) (by decide) (by decide) (by decide)),
      ((h.1 c).2 main_arg4 (by decide : main_arg4 ∈ Pipeline.restRefs sig spec0)).trans (V_keep m c main_arg4 (by decide) (by decide) (by decide) (by decide) (by decide)),
      ((h.1 c).2 main_arg5 (by decide : main_arg5 ∈ Pipeline.restRefs sig spec0)).trans (V_keep m c main_arg5 (by decide) (by decide) (by decide) (by decide) (by decide)),
      ((h.1 c).2 main_arg6 (by decide : main_arg6 ∈ Pipeline.restRefs sig spec0)).trans (V_keep m c main_arg6 (by decide) (by decide) (by decide) (by decide) (by decide))⟩, h.2⟩) (run m ρ hO hR)

end Cert.Kernel3Ideal.Moe

end
-- ==== Proof.MoeRange.lean ====
/- What the precondition says of the integer tables, and the experts' kernel's frame from it. -/
module

public import proofs.«01_k».proof.Defs
public import proofs.«01_k».proof.Proof.Finite
public import proofs.«01_k».proof.Proof.MoeFrame
public import proofs.«01_k».proof.Proof.Gen.Kernel3
public import Idealize.ShloMosaic.Lib.Pipeline.ValueKit

@[expose] public section

set_option maxRecDepth 16384

noncomputable section

namespace Cert.Pre_in_range.Read

open Idealize.ShloMosaic Cert.Pre_in_range
open Cert.Pre_finite.Read (all_one and_one)

/-- The side conditions the precondition's operations state hold. -/
theorem facts : Cert.Pre_in_range.Facts where
  bcast_S_S296 := by decide
  reducesTo_S296_S_d0 := by decide
  h_S_ := by decide
  bcast_S_S75776 := by decide
  reducesTo_S75776_S_d0 := by decide

/-- A word at least zero and below a small bound, read as signed, is below it read as a natural. -/
theorem word_lt (x b : BitVec 32) (hb : b.toNat < 2 ^ 31) (h1 : BitVec.ofBool (BitVec.sle 0#32 x) = 1#1)
    (h2 : BitVec.ofBool (BitVec.slt x b) = 1#1) : x.toNat < b.toNat := by
  have e1 : BitVec.sle 0#32 x = true := by
    cases h : BitVec.sle 0#32 x with
    | true => rfl
    | false => rw [h] at h1; exact absurd h1 (by decide)
  have e2 : BitVec.slt x b = true := by
    cases h : BitVec.slt x b with
    | true => rfl
    | false => rw [h] at h2; exact absurd h2 (by decide)
  rw [BitVec.sle_iff_toInt_le] at e1
  rw [BitVec.slt_iff_toInt_lt] at e2
  have z : (0#32 : BitVec 32).toInt = 0 := by decide
  rw [z] at e1
  rw [BitVec.toInt_eq_toNat_cond] at e1 e2
  rw [BitVec.toInt_eq_toNat_cond] at e2
  split at e1 <;> split at e2 <;> omega

/-- The precondition bounds the tiles' experts and the tokens. -/
theorem ranges [Facts] {F : FTy → Type} [FloatOps F] (H : FVec F S36864x1024 .f32) (E T : IVec S296 32) (R : IVec S75776 32)
    (A B : FVec F S8x1024x2816 .f32) (W : FVec F S8x2816x1024 .f32)
    (h : fn H E T R A B W = fun _ => 1#1) : (∀ i, (E i).toNat < 8) ∧ ∀ i, (R i).toNat < 36864 := by
  obtain ⟨h123, h4⟩ := and_one _ _ (congrFun h (fun a => a.elim0))
  obtain ⟨h12, h3⟩ := and_one _ _ h123
  obtain ⟨h1, h2⟩ := and_one _ _ h12
  exact ⟨fun i => word_lt (E i) 8#32 (by decide) (all_one _ _ _ _ _ h1 i) (all_one _ _ _ _ _ h2 i),
    fun i => word_lt (R i) 36864#32 (by decide) (all_one _ _ _ _ _ h3 i) (all_one _ _ _ _ _ h4 i)⟩

end Cert.Pre_in_range.Read

namespace Cert.Kernel3Ideal.Moe

open Idealize.ShloMosaic Idealize.ShloMosaic.TcCoe Idealize.ShloMosaic.Tactic Idealize.SL.Sem
open Cert.Kernel3Ideal Cert.Kernel3Ideal.Gen

variable {F : FTy → Type} [FloatOps F]

/-- The word a tile's index maps read. -/
theorem at_word (pf : pre0.Contents (Elt F)) (i : grid0.Coords) :
    (pf.at 0 (Rect.unit (s := S296) ![(Scalar.indexCast (BitVec.ofNat 32 (i 0).val) : Index).toNat] S1.size (k0_off1_inb i)) numel1_S1 : BitVec 32)
      = (pf 0 : S296.Idx → BitVec 32) (ix1 (i 0)) := by
  refine congrArg (pf 0 : S296.Idx → BitVec 32) (funext fun a => Fin.ext ?_)
  fin_cases a
  refine Eq.trans (b := (Scalar.indexCast (BitVec.ofNat 32 (i 0).val) : Index).toNat) ?_ (coord_word (i 0))
  show _ + 1 * 0 = _
  rfl

theorem tr_4 (pf : pre0.Contents (Elt F)) (i : grid0.Coords) :
    cc0_transform_4 k0_off1_inb numel1_S1 pf i = ![((pf 0 : S296.Idx → BitVec 32) (ix1 (i 0))).toNat, 0, 0] := by
  rw [← at_word pf i]; rfl
theorem tr_5 (pf : pre0.Contents (Elt F)) (i : grid0.Coords) :
    cc0_transform_5 k0_off1_inb numel1_S1 pf i = ![((pf 0 : S296.Idx → BitVec 32) (ix1 (i 0))).toNat, 0, 0] := by
  rw [← at_word pf i]; rfl
theorem tr_6 (pf : pre0.Contents (Elt F)) (i : grid0.Coords) :
    cc0_transform_6 k0_off1_inb numel1_S1 pf i = ![((pf 0 : S296.Idx → BitVec 32) (ix1 (i 0))).toNat, 0, 0] := by
  rw [← at_word pf i]; rfl

/-- The kernel's blocks' condition holds when the tiles' experts are in range. -/
theorem ok_of (pf : pre0.Contents (Elt F)) (h : ∀ i, ((pf 0 : S296.Idx → BitVec 32) i).toNat < 8) : ok0 (F := F) pf := by
  refine ⟨fun i => ⟨fun a => ?_, ?_⟩, fun i => ⟨fun a => ?_, ?_⟩, fun i => ⟨fun a => ?_, ?_⟩⟩
  · rw [tr_4 pf i]
    have := h (ix1 (i 0))
    fin_cases a
    · show (((pf 0 : S296.Idx → BitVec 32) (ix1 (i 0))).toNat + 1) * 1 ≤ 8; omega
    · show (0 + 1) * 1024 ≤ 1024; omega
    · show (0 + 1) * 2816 ≤ 2816; omega
  · exact .inr (Affine.block_words_dvd (of_decide_eq_true rfl) (by decide))
  · rw [tr_5 pf i]
    have := h (ix1 (i 0))
    fin_cases a
    · show (((pf 0 : S296.Idx → BitVec 32) (ix1 (i 0))).toNat + 1) * 1 ≤ 8; omega
    · show (0 + 1) * 1024 ≤ 1024; omega
    · show (0 + 1) * 2816 ≤ 2816; omega
  · exact .inr (Affine.block_words_dvd (of_decide_eq_true rfl) (by decide))
  · rw [tr_6 pf i]
    have := h (ix1 (i 0))
    fin_cases a
    · show (((pf 0 : S296.Idx → BitVec 32) (ix1 (i 0))).toNat + 1) * 1 ≤ 8; omega
    · show (0 + 1) * 2816 ≤ 2816; omega
    · show (0 + 1) * 1024 ≤ 1024; omega
  · exact .inr (Affine.block_words_dvd (of_decide_eq_true rfl) (by decide))

variable (m : (ℓ : Loc nD τ sig) → Buf (Elt F) ℓ) (ρ : Dev nD → PrngReg)

/-- The launch's tables: the tiles' experts, whether each tile is used, and the words of each tile. -/
theorem tbl_0 (i : S296.Idx) : (tbl m 0 : S296.Idx → BitVec 32) i = m (((0 : Dev nD) : Thread nD τ).loc main_arg1) i :=
  congrFun (V_keep m 0 main_arg1 (by decide) (by decide) (by decide) (by decide) (by decide)) i
theorem tbl_1 (i : S296.Idx) : (tbl m 1 : S296.Idx → BitVec 32) i = m (((0 : Dev nD) : Thread nD τ).loc main_arg2) i :=
  congrFun (V_keep m 0 main_arg2 (by decide) (by decide) (by decide) (by decide) (by decide)) i
theorem V_words (c : Dev nD) (t : Fin 296) (k : Fin 256) :
    (V m c main_v4 : S296x1x256.Idx → BitVec 32) (ix3 t 0 k) = (m ((c : Thread nD τ).loc main_arg3) : S75776.Idx → BitVec 32) (ix1 (⟨t.val * 256 + k.val, by omega⟩ : Fin 75776)) := by
  entry_read
  pointwise

theorem ok_m (h : ∀ i, ((m (((0 : Dev nD) : Thread nD τ).loc main_arg1) : S296.Idx → BitVec 32) i).toNat < 8) : Ok m :=
  ok_of _ fun i => by rw [tbl_0 m i]; exact h i
theorem rng_m (h : ∀ (c : Dev nD) i, ((m ((c : Thread nD τ).loc main_arg3) : S75776.Idx → BitVec 32) i).toNat < 36864) : Rng m := fun c x => by
  have e : x = ix3 (x 0) (0 : Fin 1) (x 2) := funext fun a => by
    fin_cases a
    · rfl
    · exact Subsingleton.elim (α := Fin 1) _ _
    · rfl
  rw [e]
  exact (congrArg BitVec.toNat (V_words m c (x 0) (x 2))).trans_lt (h c _)

end Cert.Kernel3Ideal.Moe

namespace Cert.Moe

open Idealize.ShloMosaic Idealize.ShloMosaic.TcCoe Idealize.SL.Sem
open Cert.Kernel3Ideal.Moe

section
variable [Cert.Pre_in_range.Facts]

/-- The two kernels are one text: the run at any values gives both frames. -/
theorem frame_ideal : Cert.quiescent_Kernel3Ideal := fun m ρ hpre => by
  have hr := fun c => Cert.Pre_in_range.Read.ranges _ _ _ _ _ _ _ (hpre c)
  exact frame_run (F := Ideal) m ρ (ok_m m (hr 0).1) (rng_m m fun c => (hr c).2)

/-- The two programs' kernels are the same function of the point and the buffers. -/
theorem bodies_eq {F : FTy → Type} [FloatOps F] : Cert.Kernel3.defs₀ (F := F) = Cert.Kernel3Ideal.defs₀ (F := F) := by
  unfold Cert.Kernel3.defs₀ Cert.Kernel3Ideal.defs₀
  refine congrArg Defs.onTc ?_
  funext l x
  match l, x with
  | ⟨0, _⟩, (t, s) => rfl

set_option maxHeartbeats 4000000 in
theorem frame_bits : Cert.quiescent_Kernel3 := fun m ρ hpre => by
  have hE : ∀ i, ((m ((0 : Dev Cert.Kernel3.nD).tc.loc Cert.Kernel3.main_arg1) : Cert.Kernel3.S296.Idx → BitVec 32) i).toNat < 8 :=
    (Cert.Pre_in_range.Read.ranges _ _ _ _ _ _ _ (hpre 0)).1
  have hT : ∀ (c : Dev Cert.Kernel3.nD) i, ((m (c.tc.loc Cert.Kernel3.main_arg3) : Cert.Kernel3.S75776.Idx → BitVec 32) i).toNat < 36864 := fun c =>
    (Cert.Pre_in_range.Read.ranges _ _ _ _ _ _ _ (hpre c)).2
  unfold Cert.Kernel3.defs
  rw [bodies_eq]
  exact (θ_run Cert.Kernel3Ideal.defs _ _).mono (fun _ h => h) (frame_run (F := Bits) m ρ (ok_m m hE) (rng_m m hT))
end

end Cert.Moe

end
-- ==== Proof.MoeArray.lean ====
/- The experts' result array after the run, entry by entry, from the arrays the kernel was launched with. -/
module

public import proofs.«01_k».proof.Proof.MoeTile
public import proofs.«01_k».proof.Proof.MoeRange

@[expose] public section

set_option maxRecDepth 16384

noncomputable section

namespace Cert.Moe

open Idealize.ShloMosaic

/-- The token and the expert a word names. -/
def token (w : BitVec 32) : Fin 36864 := ⟨min w.toNat 36863, by omega⟩
def expert (w : BitVec 32) : Fin 8 := ⟨min w.toNat 7, by omega⟩

/-- One entry of a tile: the token's row against the weights of the tile's expert, and zero in a tile without tokens. -/
def entry (H : FVec Ideal ⟨2, ![36864, 1024]⟩ .f32) (E U : IVec ⟨1, ![296]⟩ 32) (R : IVec ⟨1, ![75776]⟩ 32)
    (A B : FVec Ideal ⟨3, ![8, 1024, 2816]⟩ .f32) (W : FVec Ideal ⟨3, ![8, 2816, 1024]⟩ .f32) (n : Fin 296) (p : Fin 256) (d : Fin 1024) : EReal :=
  if U (ix1 n) = 1#32 then
    Ffn.out (fun k => H (ix2 (token (R (ix1 (⟨n.val * 256 + p.val, by omega⟩ : Fin 75776)))) k))
      (fun k f => A (ix3 (expert (E (ix1 n))) k f)) (fun k f => B (ix3 (expert (E (ix1 n))) k f)) (fun f => W (ix3 (expert (E (ix1 n))) f d))
  else Ideal.ofBits .f32 0x00000000#32

/-- The result in the kernel's layout: eight rows of 128 lanes a token, 256 tokens a tile. -/
def result (H : FVec Ideal ⟨2, ![36864, 1024]⟩ .f32) (E U : IVec ⟨1, ![296]⟩ 32) (R : IVec ⟨1, ![75776]⟩ 32)
    (A B : FVec Ideal ⟨3, ![8, 1024, 2816]⟩ .f32) (W : FVec Ideal ⟨3, ![8, 2816, 1024]⟩ .f32) (r : Fin 606208) (l : Fin 128) : EReal :=
  entry H E U R A B W ⟨r.val / 2048, by omega⟩ ⟨r.val % 2048 / 8, by omega⟩ ⟨128 * (r.val % 8) + l.val, by omega⟩

end Cert.Moe

namespace Cert.Kernel3Ideal.Moe

open Idealize.ShloMosaic Idealize.ShloMosaic.TcCoe Idealize.SL.Sem Cert.Kernel3Ideal Cert.Kernel3Ideal.Gen Cert.Moe
open Idealize.ShloMosaic.Pipeline (Dat)

/-- The result's window: a block of 2048 rows a tile. -/
abbrev winR : Pipeline.Window sig grid0 :=
  Pipeline.Window.ofSpec (Memref.whole main_v5) S2048x128.size cc0_transform_7 reads0_6 true false 2 stage0_6 sem0_6
    hrank0 hreads0_6 hinb0_6 nbuf0_6 (Memref.isWhole_whole _) hwx0_6 hstage0_6

theorem covers_R : winR.Covers := by decide +kernel
theorem tr_7 : ∀ t : Fin grid0.N, cc0_transform_7 (grid0.coords t) = ![t.val, 0] := by decide +kernel

variable (m : (ℓ : Loc nD τ sig) → Buf (Elt Ideal) ℓ)

theorem win_R (hO : Ok m) : (cfgM m hO).win 6 = winR := rfl

/-- The arrays the kernel is handed: the tokens with eight rows of lanes each, and the three weights. -/
theorem V_h (c : Dev nD) (r : Fin 36864) (k : Fin 1024) :
    V m c main_v0 (ix2 (⟨8 * r.val + k.val / 128, by omega⟩ : Fin 294912) (⟨k.val % 128, by omega⟩ : Fin 128)) = m ((c : Thread nD τ).loc main_arg0) (ix2 r k) := by
  entry_read
  pointwise
theorem V_a (c : Dev nD) (i : S8x1024x2816.Idx) : V m c main_v1 i = m ((c : Thread nD τ).loc main_arg4) i := by
  entry_read
  pointwise
theorem V_b (c : Dev nD) (i : S8x1024x2816.Idx) : V m c main_v2 i = m ((c : Thread nD τ).loc main_arg5) i := by
  entry_read
  pointwise
theorem V_w (c : Dev nD) (i : S8x2816x1024.Idx) : V m c main_v3 i = m ((c : Thread nD τ).loc main_arg6) i := by
  entry_read
  pointwise

/-- An expert's block of a weight is the weight at that expert. -/
theorem up_block (G : S8x1024x2816.Idx → EReal) (o : Fin 3 → ℕ) (e : Fin 8) (ho : o = ![e.val, 0, 0]) (inb) (k : Fin 1024) (f : Fin 2816) :
    G ((Rect.block (s := S8x1024x2816) S1x1024x2816.size o inb).emb (ix3 0 k f)) = G (ix3 e k f) := by
  subst ho
  refine congrArg G (funext fun a => Fin.ext ?_)
  fin_cases a
  · show e.val * 1 + 1 * 0 = e.val; omega
  · show 0 * 1024 + 1 * k.val = k.val; omega
  · show 0 * 2816 + 1 * f.val = f.val; omega
theorem down_block (G : S8x2816x1024.Idx → EReal) (o : Fin 3 → ℕ) (e : Fin 8) (ho : o = ![e.val, 0, 0]) (inb) (f : Fin 2816) (d : Fin 1024) :
    G ((Rect.block (s := S8x2816x1024) S1x2816x1024.size o inb).emb (ix3 0 f d)) = G (ix3 e f d) := by
  subst ho
  refine congrArg G (funext fun a => Fin.ext ?_)
  fin_cases a
  · show e.val * 1 + 1 * 0 = e.val; omega
  · show 0 * 2816 + 1 * f.val = f.val; omega
  · show 0 * 1024 + 1 * d.val = d.val; omega

/-- The tile's number is its point's coordinate. -/
theorem coord_eq (t : Fin 296) : (ix1 (grid0.coords (t : Fin grid0.N) 0) : S296.Idx) = ix1 t := by
  funext a
  fin_cases a
  exact Fin.ext (coord_at t)

theorem expert_off (hE : ∀ i, ((m (((0 : Dev nD) : Thread nD τ).loc main_arg1) : S296.Idx → BitVec 32) i).toNat < 8) (t : Fin 296) :
    ((tbl m 0 : S296.Idx → BitVec 32) (ix1 (grid0.coords (t : Fin grid0.N) 0))).toNat
      = (expert ((m (((0 : Dev nD) : Thread nD τ).loc main_arg1) : S296.Idx → BitVec 32) (ix1 t))).val := by
  rw [coord_eq, tbl_0]
  have := hE (ix1 t)
  show _ = min _ 7
  omega

section Blocks

variable (hO : Ok m) (hE : ∀ i, ((m (((0 : Dev nD) : Thread nD τ).loc main_arg1) : S296.Idx → BitVec 32) i).toNat < 8)

/-- The word naming a tile's expert. -/
abbrev eword (t : Fin 296) : BitVec 32 := (m (((0 : Dev nD) : Thread nD τ).loc main_arg1) : S296.Idx → BitVec 32) (ix1 t)

include hE in
theorem a_at (c : Dev nD) (t : Fin 296) (k : Fin 1024) (f : Fin 2816) :
    iblk m hO c 3 t (ix3 0 k f) = m ((c : Thread nD τ).loc main_arg4) (ix3 (expert (eword m t)) k f) :=
  (up_block (V m c main_v1) _ (expert (eword m t)) ((tr_4 (tbl m) (grid0.coords (t : Fin grid0.N))).trans (by rw [expert_off m hE t]))
    (fun a => hinb0 (tbl m) hO 3 (grid0.coords (t : Fin grid0.N)) a) k f).trans (V_a m c _)
include hE in
theorem b_at (c : Dev nD) (t : Fin 296) (k : Fin 1024) (f : Fin 2816) :
    iblk m hO c 4 t (ix3 0 k f) = m ((c : Thread nD τ).loc main_arg5) (ix3 (expert (eword m t)) k f) :=
  (up_block (V m c main_v2) _ (expert (eword m t)) ((tr_5 (tbl m) (grid0.coords (t : Fin grid0.N))).trans (by rw [expert_off m hE t]))
    (fun a => hinb0 (tbl m) hO 4 (grid0.coords (t : Fin grid0.N)) a) k f).trans (V_b m c _)
include hE in
theorem w_at (c : Dev nD) (t : Fin 296) (f : Fin 2816) (d : Fin 1024) :
    iblk m hO c 5 t (ix3 0 f d) = m ((c : Thread nD τ).loc main_arg6) (ix3 (expert (eword m t)) f d) :=
  (down_block (V m c main_v3) _ (expert (eword m t)) ((tr_6 (tbl m) (grid0.coords (t : Fin grid0.N))).trans (by rw [expert_off m hE t]))
    (fun a => hinb0 (tbl m) hO 5 (grid0.coords (t : Fin grid0.N)) a) f d).trans (V_w m c _)

end Blocks

/-- The gathered rows are the tokens' rows. -/
theorem tok_at (c : Dev nD) (r : Fin 256 → Fin 36864) (p : Fin 256) (k : Fin 1024) :
    tokRow (gathV (F := Ideal) (hv m c) r) p k = m ((c : Thread nD τ).loc main_arg0) (ix2 (r p) k) := by
  rw [← V_h m c]
  have e : ∀ q : Fin 256, q = p → (r q).val = (r p).val := fun q h => by rw [h]
  have e' := e ⟨(8 * p.val + k.val / 128) / 8, by omega⟩ (Fin.ext (by show (8 * p.val + k.val / 128) / 8 = p.val; omega))
  refine congrArg (V m c main_v0) (funext fun a => Fin.ext ?_)
  fin_cases a
  · show 8 * (r ⟨(8 * p.val + k.val / 128) / 8, _⟩).val + (8 * p.val + k.val / 128) % 8 = 8 * (r p).val + k.val / 128
    omega
  · rfl

/-- The row a tile's word names. -/
theorem row_at (c : Dev nD) (hR : ∀ i, ((m ((c : Thread nD τ).loc main_arg3) : S75776.Idx → BitVec 32) i).toNat < 36864) (t : Fin 296) (p : Fin 256) :
    rowFn (F := Ideal) (words m c t.val) p = token ((m ((c : Thread nD τ).loc main_arg3) : S75776.Idx → BitVec 32) (ix1 (⟨t.val * 256 + p.val, by omega⟩ : Fin 75776))) := by
  have ht : (⟨min t.val 295, by omega⟩ : Fin 296) = t := Fin.ext (by show min t.val 295 = t.val; omega)
  have hw : words (F := Ideal) m c t.val (ix3 0 0 p) = (m ((c : Thread nD τ).loc main_arg3) : S75776.Idx → BitVec 32) (ix1 (⟨t.val * 256 + p.val, by omega⟩ : Fin 75776)) :=
    Eq.trans (congrArg (V m c main_v4 : S296x1x256.Idx → BitVec 32) (funext fun a => by
      fin_cases a
      · exact ht
      · rfl
      · rfl)) (V_words m c t p)
  have h := hR (ix1 (⟨t.val * 256 + p.val, by omega⟩ : Fin 75776))
  refine Fin.ext ?_
  unfold rowFn
  split
  · rename_i hk
    show (words (F := Ideal) m c t.val (ix3 0 0 p) : BitVec 32).toNat = min _ 36863
    rw [hw]; omega
  · rename_i hk
    exact absurd (by rw [← hw] at h; exact h) hk

/-- Whether a tile has tokens. -/
theorem used_at (t : Fin 296) : vword (F := Ideal) (grid0.coords (t : Fin grid0.N)) (tbl m 1) = (m (((0 : Dev nD) : Thread nD τ).loc main_arg2) : S296.Idx → BitVec 32) (ix1 t) := by
  refine Eq.trans ?_ (tbl_1 m (ix1 t))
  exact congrArg (tbl m 1 : S296.Idx → BitVec 32) (coord_eq t)

/-- A tile's entry from what its blocks hold. -/
theorem cell_eq (X : Vec Ideal S2048x128 .f32) (x7 x8 : Vec Ideal S1x1024x2816 .bf16) (x9 : Vec Ideal S1x2816x1024 .bf16) (p : Fin 256) (d : Fin 1024)
    (h : Fin 1024 → EReal) (A B : Fin 1024 → Fin 2816 → EReal) (w : Fin 2816 → EReal) (hh : ∀ k, tokRow X p k = h k)
    (hA : ∀ k f, x7 (ix3 0 k f) = A k f) (hB : ∀ k f, x8 (ix3 0 k f) = B k f) (hw : ∀ f, x9 (ix3 0 f d) = w f) : cell X x7 x8 x9 p d = Ffn.out h A B w := by
  obtain rfl : tokRow X p = h := funext hh
  obtain rfl : (fun k f => x7 (ix3 0 k f)) = A := funext fun k => funext (hA k)
  obtain rfl : (fun k f => x8 (ix3 0 k f)) = B := funext fun k => funext (hB k)
  obtain rfl : (fun f => x9 (ix3 0 f d)) = w := funext hw
  rfl

/-- What a tile leaves at one index of its block is the result's entry there. -/
theorem point (hO : Ok m) (c : Dev nD)
    (hE : ∀ i, ((m (((0 : Dev nD) : Thread nD τ).loc main_arg1) : S296.Idx → BitVec 32) i).toNat < 8)
    (hR : ∀ i, ((m ((c : Thread nD τ).loc main_arg3) : S75776.Idx → BitVec 32) i).toNat < 36864)
    (t : Fin 296) (y : S2048x128.Idx) (p : Fin 256) (d : Fin 1024) (h0 : (y 0).val = 8 * p.val + d.val / 128) (h1 : (y 1).val = d.val % 128) :
    outAt m hO c t y = entry (m ((c : Thread nD τ).loc main_arg0)) (m (((0 : Dev nD) : Thread nD τ).loc main_arg1)) (m (((0 : Dev nD) : Thread nD τ).loc main_arg2))
      (m ((c : Thread nD τ).loc main_arg3)) (m ((c : Thread nD τ).loc main_arg4)) (m ((c : Thread nD τ).loc main_arg5)) (m ((c : Thread nD τ).loc main_arg6)) t p d := by
  unfold outAt tileOut entry
  rw [used_at m t]
  split
  · refine (comp_at _ _ _ _ p d y h0 h1).trans ?_
    exact cell_eq _ _ _ _ p d _ _ _ _ (fun k => (tok_at m c _ p k).trans (congrArg (fun r => m ((c : Thread nD τ).loc main_arg0) (ix2 r k)) (row_at m c hR t p)))
      (fun k f => a_at m hO hE c t k f) (fun k f => b_at m hO hE c t k f) (fun f => w_at m hO hE c t f d)
  · exact zero_at y

/-- The same by the place of the block's entry in the array. -/
theorem place (hO : Ok m) (c : Dev nD)
    (hE : ∀ i, ((m (((0 : Dev nD) : Thread nD τ).loc main_arg1) : S296.Idx → BitVec 32) i).toNat < 8)
    (hR : ∀ i, ((m ((c : Thread nD τ).loc main_arg3) : S75776.Idx → BitVec 32) i).toNat < 36864)
    (t : Fin 296) (y : S2048x128.Idx) (r : Fin 606208) (l : Fin 128) (e0 : r.val = t.val * 2048 + (y 0).val) (e1 : l.val = (y 1).val) :
    outAt m hO c t y = result (m ((c : Thread nD τ).loc main_arg0)) (m (((0 : Dev nD) : Thread nD τ).loc main_arg1)) (m (((0 : Dev nD) : Thread nD τ).loc main_arg2))
      (m ((c : Thread nD τ).loc main_arg3)) (m ((c : Thread nD τ).loc main_arg4)) (m ((c : Thread nD τ).loc main_arg5)) (m ((c : Thread nD τ).loc main_arg6)) r l := by
  have y0 : (y 0).val < 2048 := (y 0).isLt
  have y1 : (y 1).val < 128 := (y 1).isLt
  have hl := l.isLt
  unfold result
  have et : (⟨r.val / 2048, by omega⟩ : Fin 296) = t := Fin.ext (by show r.val / 2048 = t.val; omega)
  rw [et]
  refine point m hO c hE hR t y _ _ ?_ ?_
  · show (y 0).val = 8 * (r.val % 2048 / 8) + (128 * (r.val % 8) + l.val) / 128; omega
  · show (y 1).val = (128 * (r.val % 8) + l.val) % 128; omega

/-- The result array after the run. -/
theorem final (hO : Ok m) (c : Dev nD)
    (hE : ∀ i, ((m (((0 : Dev nD) : Thread nD τ).loc main_arg1) : S296.Idx → BitVec 32) i).toNat < 8)
    (hR : ∀ i, ((m ((c : Thread nD τ).loc main_arg3) : S75776.Idx → BitVec 32) i).toNat < 36864) :
    (dats m hO 0 c).arrAt 6 (cfgM m hO).N = fun i : S606208x128.Idx => result (m ((c : Thread nD τ).loc main_arg0)) (m (((0 : Dev nD) : Thread nD τ).loc main_arg1)) (m (((0 : Dev nD) : Thread nD τ).loc main_arg2))
      (m ((c : Thread nD τ).loc main_arg3)) (m ((c : Thread nD τ).loc main_arg4)) (m ((c : Thread nD τ).loc main_arg5)) (m ((c : Thread nD τ).loc main_arg6)) (i 0) (i 1) := by
  refine (dats m hO 0 c).arrAt_eq_of_covers 6 _ covers_R fun t hf y => ?_
  blk_simp
  rw [after_6]
  have e := congrFun (tr_7 t)
  refine place m hO c hE hR t y _ _ ?_ ?_
  · refine Eq.trans (b := cc0_transform_7 (grid0.coords t) 0 * 2048 + 1 * (y (0 : Fin 2)).val) rfl ?_
    rw [e 0]
    show t.val * 2048 + 1 * (y (0 : Fin 2)).val = t.val * 2048 + (y (0 : Fin 2)).val
    omega
  · refine Eq.trans (b := cc0_transform_7 (grid0.coords t) 1 * 128 + 1 * (y (1 : Fin 2)).val) rfl ?_
    rw [e 1]
    show 0 * 128 + 1 * (y (1 : Fin 2)).val = (y (1 : Fin 2)).val
    omega

end Cert.Kernel3Ideal.Moe

end
-- ==== Proof.MoeRef.lean ====
/- What the experts' reference computes, entry by entry, for words in range. -/
module

public import proofs.«01_k».proof.Proof.Gen.Reference3Ideal.Run
public import proofs.«01_k».proof.Proof.MoeArray

@[expose] public section

set_option maxRecDepth 16384

noncomputable section

open Idealize.ShloMosaic Idealize.ShloMosaic.TcCoe Idealize.SL.Sem

namespace Cert.Reference3Ideal.Read

open Cert.Reference3Ideal Cert.Reference3Ideal.Gen Cert.Moe

/-- A word in range read as signed. -/
theorem word_int (w : BitVec 32) (b : ℕ) (hb : b < 2 ^ 31) (h : w.toNat < b) : w.toInt.toNat = w.toNat := by
  rw [BitVec.toInt_eq_toNat_cond]
  split <;> omega

/-- The rows of an array at words in range. -/
theorem token_rows (x : FVec Ideal S36864x1024 .f32) (i : IVec S75776x1 32) (n : Fin 75776) (k : Fin 1024) (h : (i (ix2 n 0)).toNat < 36864) :
    Host.gather gather_S36864x1024_S75776x1_S75776x1024_1_0_n_n_0_1_11024 x i (ix2 n k) = x (ix2 (token (i (ix2 n 0))) k) := by
  unfold Host.gather
  refine congrArg x (funext fun a => Fin.ext ?_)
  fin_cases a
  · refine Eq.trans (b := min (i (ix2 n 0)).toInt.toNat (36864 - 1) + 0 + 0) ?_ ?_
    · refine congrArg (fun q : S75776x1.Idx => min (i q).toInt.toNat (36864 - 1) + 0 + 0) (funext fun b => Fin.ext ?_)
      fin_cases b <;> rfl
    · rw [word_int _ 36864 (by decide) h]; rfl
  · show 0 + 0 + k.val = k.val
    omega

/-- The experts' weights at words in range. -/
theorem expert_ups (x : FVec Ideal S8x1024x2816 .f32) (i : IVec S296x1 32) (n : Fin 296) (k : Fin 1024) (f : Fin 2816) (h : (i (ix2 n 0)).toNat < 8) :
    Host.gather gather_S8x1024x2816_S296x1_S296x1024x2816_12_0_n_n_0_1_110242816 x i (ix3 n k f) = x (ix3 (expert (i (ix2 n 0))) k f) := by
  unfold Host.gather
  refine congrArg x (funext fun a => Fin.ext ?_)
  fin_cases a
  · refine Eq.trans (b := min (i (ix2 n 0)).toInt.toNat (8 - 1) + 0 + 0) ?_ ?_
    · refine congrArg (fun q : S296x1.Idx => min (i q).toInt.toNat (8 - 1) + 0 + 0) (funext fun b => Fin.ext ?_)
      fin_cases b <;> rfl
    · rw [word_int _ 8 (by decide) h]; rfl
  · show 0 + 0 + k.val = k.val
    omega
  · show 0 + 0 + f.val = f.val
    omega
theorem expert_downs (x : FVec Ideal S8x2816x1024 .f32) (i : IVec S296x1 32) (n : Fin 296) (f : Fin 2816) (d : Fin 1024) (h : (i (ix2 n 0)).toNat < 8) :
    Host.gather gather_S8x2816x1024_S296x1_S296x2816x1024_12_0_n_n_0_1_128161024 x i (ix3 n f d) = x (ix3 (expert (i (ix2 n 0))) f d) := by
  unfold Host.gather
  refine congrArg x (funext fun a => Fin.ext ?_)
  fin_cases a
  · refine Eq.trans (b := min (i (ix2 n 0)).toInt.toNat (8 - 1) + 0 + 0) ?_ ?_
    · refine congrArg (fun q : S296x1.Idx => min (i q).toInt.toNat (8 - 1) + 0 + 0) (funext fun b => Fin.ext ?_)
      fin_cases b <;> rfl
    · rw [word_int _ 8 (by decide) h]; rfl
  · show 0 + 0 + f.val = f.val
    omega
  · show 0 + 0 + d.val = d.val
    omega

/-- A word below a small bound is not negative: the reference's wrap leaves it. -/
theorem kept (w : BitVec 32) (b c : BitVec 32) (hb : b.toNat < 2 ^ 31) (h : w.toNat < b.toNat) :
    (if BitVec.ofBool (BitVec.slt w 0#32) = 1#1 then w + c else w) = w := by
  refine if_neg fun e => ?_
  cases hs : BitVec.slt w 0#32 with
  | false => rw [hs] at e; exact absurd e (by decide)
  | true =>
    rw [BitVec.slt_iff_toInt_lt, BitVec.toInt_eq_toNat_cond, show (0#32 : BitVec 32).toInt = 0 by decide] at hs
    split at hs <;> omega

variable (H : FVec Ideal S36864x1024 .f32) (E U : IVec S296 32) (R : IVec S75776 32)
  (A B : FVec Ideal S8x1024x2816 .f32) (W : FVec Ideal S8x2816x1024 .f32)

/-- The words of tokens and of experts, wrapped as the reference wraps them, a column each. -/
def tokens : IVec S75776x1 32 :=
  broadcastInDim S75776x1 ![0] bcast_S75776_S75776x1_0 (select (cmpi .slt R (broadcastInDim S75776 ![] bcast_S_S75776 (constantI S_ 32 0#32)))
    (addi R (broadcastInDim S75776 ![] bcast_S_S75776 (constantI S_ 32 36864#32))) R)
def experts : IVec S296x1 32 :=
  broadcastInDim S296x1 ![0] bcast_S296_S296x1_0 (select (cmpi .slt E (broadcastInDim S296 ![] bcast_S_S296 (constantI S_ 32 0#32)))
    (addi E (broadcastInDim S296 ![] bcast_S_S296 (constantI S_ 32 8#32))) E)

/-- The tiles' rows. -/
def rows : FVec Ideal S296x256x1024 .f32 :=
  shapeCast _ (Host.gather gather_S36864x1024_S75776x1_S75776x1024_1_0_n_n_0_1_11024 H (tokens R)) shapeCasts_S75776x1024_S296x256x1024

/-- One product of every tile's rows with its expert's first-layer weight. -/
def up (C : FVec Ideal S8x1024x2816 .f32) : FVec Ideal S296x256x2816 .f32 :=
  Host.dotGeneral dot_S296x256x1024_S296x1024x2816_S296x256x2816_2_1_1_2_0_0 none (rows H R)
    (Host.gather gather_S8x1024x2816_S296x1_S296x1024x2816_12_0_n_n_0_1_110242816 C (experts E))

/-- The hidden units. -/
def hidden : FVec Ideal S296x256x2816 .f32 :=
  mulf (mulf (up H E R A) (Host.divf (broadcastInDim S296x256x2816 ![] bcast_S_S296x256x2816 (constant S_ .f32 0x3F800000#32))
    (addf (broadcastInDim S296x256x2816 ![] bcast_S_S296x256x2816 (constant S_ .f32 0x3F800000#32)) (Host.exp (Host.negf (up H E R A)))))) (up H E R B)

/-- The second layer. -/
def down (X : FVec Ideal S296x256x2816 .f32) : FVec Ideal S296x256x1024 .f32 :=
  Host.dotGeneral dot_S296x256x2816_S296x2816x1024_S296x256x1024_2_1_1_2_0_0 none X
    (Host.gather gather_S8x2816x1024_S296x1_S296x2816x1024_12_0_n_n_0_1_128161024 W (experts E))

/-- The tiles with tokens, zero in the others. -/
def masked (Y : FVec Ideal S296x256x1024 .f32) : FVec Ideal S296x256x1024 .f32 :=
  select (broadcastInDim S296x256x1024 ![0, 1, 2] bcast_S296x1x1_S296x256x1024_0_1_2
      (cmpi .eq (broadcastInDim S296x1x1 ![0] bcast_S296_S296x1x1_0 U) (broadcastInDim S296x1x1 ![] bcast_S_S296x1x1 (constantI S_ 32 1#32))))
    Y (broadcastInDim S296x256x1024 ![] bcast_S_S296x256x1024 (constant S_ .f32 0x00000000#32))

/-- The reference's result of its seven arguments. -/
def result : FVec Ideal S606208x128 .f32 := shapeCast _ (masked U (down E W (hidden H E R A B))) shapeCasts_S296x256x1024_S606208x128

theorem res_eq (m : (ℓ : Loc nD τ sig) → Buf (Elt Ideal) ℓ) (c : Dev nD) : Cert.Reference3Ideal.Value.res_main_v38 m c
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

theorem tokens_at (n : Fin 75776) (h : (R (ix1 n)).toNat < 36864) : tokens R (ix2 n 0) = R (ix1 n) := by
  refine Eq.trans ?_ (kept (R (ix1 n)) 36864#32 36864#32 (by decide) h)
  pointwise [tokens]
  rfl
theorem experts_at (n : Fin 296) (h : (E (ix1 n)).toNat < 8) : experts E (ix2 n 0) = E (ix1 n) := by
  refine Eq.trans ?_ (kept (E (ix1 n)) 8#32 8#32 (by decide) h)
  pointwise [experts]
  rfl

theorem rows_at (hR : ∀ i, (R i).toNat < 36864) (n : Fin 296) (p : Fin 256) (k : Fin 1024) :
    rows H R (ix3 n p k) = H (ix2 (token (R (ix1 (⟨n.val * 256 + p.val, by omega⟩ : Fin 75776)))) k) := by
  refine Eq.trans (b := Host.gather gather_S36864x1024_S75776x1_S75776x1024_1_0_n_n_0_1_11024 H (tokens R) (ix2 (⟨n.val * 256 + p.val, by omega⟩ : Fin 75776) k)) ?_ ?_
  · unfold rows
    generalize Host.gather gather_S36864x1024_S75776x1_S75776x1024_1_0_n_n_0_1_11024 H (tokens R) = g
    pointwise
  · rw [token_rows _ _ _ _ (by rw [tokens_at _ _ (hR _)]; exact hR _), tokens_at _ _ (hR _)]

theorem up_at (C : FVec Ideal S8x1024x2816 .f32) (hE : ∀ i, (E i).toNat < 8) (hR : ∀ i, (R i).toNat < 36864) (n : Fin 296) (p : Fin 256) (f : Fin 2816) :
    up H E R C (ix3 n p f) = ∑ k : Fin 1024, H (ix2 (token (R (ix1 (⟨n.val * 256 + p.val, by omega⟩ : Fin 75776)))) k) * C (ix3 (expert (E (ix1 n))) k f) := by
  refine Eq.trans (b := ∑ k : Fin 1024, rows H R (ix3 n p k) * Host.gather gather_S8x1024x2816_S296x1_S296x1024x2816_12_0_n_n_0_1_110242816 C (experts E) (ix3 n k f)) ?_ ?_
  · unfold up
    generalize Host.gather gather_S8x1024x2816_S296x1_S296x1024x2816_12_0_n_n_0_1_110242816 C (experts E) = g
    generalize rows H R = r
    pointwise
  · refine Finset.sum_congr rfl fun k _ => ?_
    rw [rows_at H R hR, expert_ups _ _ _ _ _ (by rw [experts_at _ _ (hE _)]; exact hE _), experts_at _ _ (hE _)]

theorem hidden_at (hE : ∀ i, (E i).toNat < 8) (hR : ∀ i, (R i).toNat < 36864) (n : Fin 296) (p : Fin 256) (f : Fin 2816) :
    hidden H E R A B (ix3 n p f) = Ffn.unit (fun k => H (ix2 (token (R (ix1 (⟨n.val * 256 + p.val, by omega⟩ : Fin 75776)))) k))
      (fun k => A (ix3 (expert (E (ix1 n))) k f)) (fun k => B (ix3 (expert (E (ix1 n))) k f)) := by
  unfold Ffn.unit
  rw [← up_at H E R A hE hR, ← up_at H E R B hE hR]
  unfold hidden
  generalize up H E R A = u
  generalize up H E R B = v
  pointwise [Ffn.silu]

theorem down_at (X : FVec Ideal S296x256x2816 .f32) (hE : ∀ i, (E i).toNat < 8) (n : Fin 296) (p : Fin 256) (d : Fin 1024) :
    down E W X (ix3 n p d) = ∑ f : Fin 2816, X (ix3 n p f) * W (ix3 (expert (E (ix1 n))) f d) := by
  refine Eq.trans (b := ∑ f : Fin 2816, X (ix3 n p f) * Host.gather gather_S8x2816x1024_S296x1_S296x2816x1024_12_0_n_n_0_1_128161024 W (experts E) (ix3 n f d)) ?_ ?_
  · unfold down
    generalize Host.gather gather_S8x2816x1024_S296x1_S296x2816x1024_12_0_n_n_0_1_128161024 W (experts E) = g
    pointwise
  · refine Finset.sum_congr rfl fun f _ => ?_
    rw [expert_downs _ _ _ _ _ (by rw [experts_at _ _ (hE _)]; exact hE _), experts_at _ _ (hE _)]

theorem masked_at (Y : FVec Ideal S296x256x1024 .f32) (n : Fin 296) (p : Fin 256) (d : Fin 1024) :
    masked U Y (ix3 n p d) = if U (ix1 n) = 1#32 then Y (ix3 n p d) else Ideal.ofBits .f32 0x00000000#32 := by
  pointwise [masked]
  by_cases h : U (ix1 n) = 1#32
  · rw [if_pos h, h]; rfl
  · rw [if_neg h]
    refine if_neg fun e => h ?_
    revert e
    show BitVec.ofBool (U (ix1 n) == 1#32) = 1#1 → _
    cases hb : (U (ix1 n) == 1#32) with
    | true => exact fun _ => eq_of_beq hb
    | false => exact fun e => absurd e (by decide)

/-- The reference's entry. -/
theorem result_at (hE : ∀ i, (E i).toNat < 8) (hR : ∀ i, (R i).toNat < 36864) (r : Fin 606208) (l : Fin 128) :
    result H E U R A B W (ix2 r l) = Moe.result H E U R A B W r l := by
  have hr := r.isLt
  have hl := l.isLt
  refine Eq.trans (b := masked U (down E W (hidden H E R A B)) (ix3 (⟨r.val / 2048, by omega⟩ : Fin 296) (⟨r.val % 2048 / 8, by omega⟩ : Fin 256) (⟨128 * (r.val % 8) + l.val, by omega⟩ : Fin 1024))) ?_ ?_
  · unfold result
    generalize masked U (down E W (hidden H E R A B)) = g
    pointwise
    have e1 : r.val / 8 % 256 = r.val % 2048 / 8 := by omega
    have e2 : r.val % 8 * 128 + l.val = 128 * (r.val % 8) + l.val := by omega
    simp only [e1, e2]
  · rw [masked_at, down_at E W _ hE]
    unfold Moe.result Moe.entry Ffn.out
    simp only [hidden_at H E R A B hE hR]

end Cert.Reference3Ideal.Read

end
-- ==== Proof.MoeEqual.lean ====
/- The experts' feed-forward and its reference leave equal arrays. -/
module

public import proofs.«01_k».proof.Defs
public import proofs.«01_k».proof.Proof.MoeArray
public import proofs.«01_k».proof.Proof.MoeRef
public import Idealize.ShloMosaic.Lib.Claim

@[expose] public section

set_option maxRecDepth 16384

noncomputable section

namespace Cert.MoeEqual

open Idealize.ShloMosaic Idealize.ShloMosaic.TcCoe Idealize.SL.Sem

variable [Cert.Pre_in_range.Facts]

/-- The two result arrays are equal when the words are in range. -/
theorem result_eq (H : FVec Ideal Reference3Ideal.S36864x1024 .f32) (E U : IVec Reference3Ideal.S296 32) (R : IVec Reference3Ideal.S75776 32)
    (A B : FVec Ideal Reference3Ideal.S8x1024x2816 .f32) (W : FVec Ideal Reference3Ideal.S8x2816x1024 .f32)
    (hE : ∀ i, (E i).toNat < 8) (hR : ∀ i, (R i).toNat < 36864) :
    Reference3Ideal.Read.result H E U R A B W = fun i => Cert.Moe.result H E U R A B W (i 0) (i 1) :=
  funext fun i => by
    refine Eq.trans (congrArg _ ?_) (Reference3Ideal.Read.result_at H E U R A B W hE hR (i 0) (i 1))
    funext a; match a with
    | 0 => rfl
    | 1 => rfl

section Run

open Cert.Kernel3Ideal Cert.Kernel3Ideal.Gen

/-- The kernel's run from words in range: the result's array, and the arguments as they were. -/
theorem kernel_run (m : (ℓ : Loc nD τ sig) → Buf (Elt Ideal) ℓ) (ρ : Dev nD → PrngReg) (hpre : Pre_Kernel3Ideal m) :
    θ_run (defs (F := Ideal)) (onTc (τ := τ) (main (F := Ideal))) ⟨m, fun _ => 0, ρ⟩ (fun r => ∀ c : Dev nD,
      r.2.mem ((c.tc : Thread nD τ).loc main_v5) = (fun i : S606208x128.Idx => Cert.Moe.result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hr := fun c => Cert.Pre_in_range.Read.ranges _ _ _ _ _ _ _ (hpre c)
  have hO := Moe.ok_m m (hr 0).1
  refine (θ_run defs _ _).mono (fun r h c => ⟨((h.1 c).1 (6 : Fin 7)).trans ?_,
      ((h.1 c).2 main_arg0 (by decide : main_arg0 ∈ Pipeline.restRefs sig spec0)).trans (Moe.V_keep m c main_arg0 (by decide) (by decide) (by decide) (by decide) (by decide)),
      ((h.1 c).2 main_arg1 (by decide : main_arg1 ∈ Pipeline.restRefs sig spec0)).trans (Moe.V_keep m c main_arg1 (by decide) (by decide) (by decide) (by decide) (by decide)),
      ((h.1 c).2 main_arg2 (by decide : main_arg2 ∈ Pipeline.restRefs sig spec0)).trans (Moe.V_keep m c main_arg2 (by decide) (by decide) (by decide) (by decide) (by decide)),
      ((h.1 c).2 main_arg3 (by decide : main_arg3 ∈ Pipeline.restRefs sig spec0)).trans (Moe.V_keep m c main_arg3 (by decide) (by decide) (by decide) (by decide) (by decide)),
      ((h.1 c).2 main_arg4 (by decide : main_arg4 ∈ Pipeline.restRefs sig spec0)).trans (Moe.V_keep m c main_arg4 (by decide) (by decide) (by decide) (by decide) (by decide)),
      ((h.1 c).2 main_arg5 (by decide : main_arg5 ∈ Pipeline.restRefs sig spec0)).trans (Moe.V_keep m c main_arg5 (by decide) (by decide) (by decide) (by decide) (by decide)),
      ((h.1 c).2 main_arg6 (by decide : main_arg6 ∈ Pipeline.restRefs sig spec0)).trans (Moe.V_keep m c main_arg6 (by decide) (by decide) (by decide) (by decide) (by decide))⟩) (Moe.run m ρ hO (Moe.rng_m m fun c => (hr c).2))
  obtain rfl : c = 0 := Subsingleton.elim _ _
  exact Moe.final m hO 0 (hr 0).1 (hr 0).2

end Run

/-- From arguments that agree and words in range, the kernel and the reference run to equal results. -/
theorem algebraic : Cert.algebraic_Kernel3Ideal_Reference3Ideal := by
  pair_intro
  · exact kernel_run m g hpre
  · run_from Cert.Reference3Ideal.Value.run m' g'
    have hr := Cert.Pre_in_range.Read.ranges _ _ _ _ _ _ _ (hpre c)
    rw [Reference3Ideal.Read.res_eq, (hagree c).1, (hagree c).2.1, (hagree c).2.2.1, (hagree c).2.2.2.1, (hagree c).2.2.2.2.1, (hagree c).2.2.2.2.2.1, (hagree c).2.2.2.2.2.2]
    exact result_eq _ _ _ _ _ _ _ hr.1 hr.2

end Cert.MoeEqual

end
-- ==== Proof.lean ====
/- The certificate's proof: for each of the three kernels the frames, the idealization, and the equality of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Equal
public import proofs.«01_k».proof.Proof.FfnEqual
public import proofs.«01_k».proof.Proof.MoeEqual
public import Idealize.ShloMosaic.Adequacy
public import Idealize.ShloMosaic.Init

@[expose] public section

noncomputable section

namespace Cert.Proof

open Idealize.ShloMosaic Idealize.SL.Sem Cert.Kernel

/-- The reference runs, leaves its arguments as they were and every semaphore counter at zero. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- The dense feed-forward's reference runs, leaves its arguments as they were and every semaphore counter at zero. -/
theorem frame_reference2 : Cert.quiescent_Reference2Ideal := by
  intro m g _
  exact (θ_run Cert.Reference2Ideal.defs _ _).mono (fun r h => ⟨fun c => (h c).2, sem_eq_zero_of_no_sems (by decide) r.2⟩)
    (Cert.Reference2Ideal.Value.run (F := Ideal) m g)

/-- The experts' reference runs, leaves its arguments as they were and every semaphore counter at zero. -/
theorem frame_reference3 [Cert.Pre_in_range.Facts] : Cert.quiescent_Reference3Ideal := by
  intro m g _
  exact (θ_run Cert.Reference3Ideal.defs _ _).mono (fun r h => ⟨fun c => (h c).2, sem_eq_zero_of_no_sems (by decide) r.2⟩)
    (Cert.Reference3Ideal.Value.run (F := Ideal) m g)

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite.Read.facts, Cert.Pre_in_range.Read.facts,
    fun m g _ => Cert.Kernel.Gen.frame m g, fun m g _ => Cert.KernelIdeal.Gen.frame m g,
    fun m g _ => Cert.KernelIdeal.Gen.frame m g, frame_reference, fun m g _ => frame_reference m g trivial,
    fun m g _ => Cert.Kernel2.Gen.frame m g, fun m g _ => Cert.Kernel2Ideal.Gen.frame m g, frame_reference2,
    (haveI := Cert.Pre_in_range.Read.facts
     Cert.Moe.frame_bits),
    (haveI := Cert.Pre_in_range.Read.facts
     Cert.Moe.frame_ideal),
    (haveI := Cert.Pre_in_range.Read.facts
     frame_reference3), trivial,
    (haveI := Cert.Pre_finite.Read.facts
     Cert.Equal.algebraic),
    trivial, Cert.FfnEqual.algebraic, trivial,
    (haveI := Cert.Pre_in_range.Read.facts
     Cert.MoeEqual.algebraic)⟩

end Cert.Proof

end
